-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_row_masked [hPre_every_row_masked : Cert.Pre_every_row_masked.Facts] (m : (ℓ : Loc Cert.KernelIdeal.nD Cert.KernelIdeal.τ Cert.KernelIdeal.sig) → Buf (Elt Ideal) ℓ) : Prop :=
  ∀ c : Dev Cert.KernelIdeal.nD,
    (Cert.Pre_every_row_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_row_masked [hPre_every_row_masked : Cert.Pre_every_row_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_row_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_every_row_masked [hKernelIdeal : Cert.KernelIdeal.Facts] [hPre_every_row_masked : Cert.Pre_every_row_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_row_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_every_row_masked [hReferenceIdeal : Cert.ReferenceIdeal.Facts] [hPre_every_row_masked : Cert.Pre_every_row_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_row_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_every_row_masked [hKernelIdeal : Cert.KernelIdeal.Facts] [hReferenceIdeal : Cert.ReferenceIdeal.Facts] [hPre_every_row_masked : Cert.Pre_every_row_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_row_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_every_row_masked : Cert.Pre_every_row_masked.Facts),
    quiescent_Kernel (hKernel := hKernel)
    ∧ quiescent_KernelIdeal (hKernelIdeal := hKernelIdeal)
    ∧ quiescent_KernelIdeal_pre_every_row_masked (hKernelIdeal := hKernelIdeal) (hPre_every_row_masked := hPre_every_row_masked)
    ∧ quiescent_ReferenceIdeal (hReferenceIdeal := hReferenceIdeal)
    ∧ quiescent_ReferenceIdeal_pre_every_row_masked (hReferenceIdeal := hReferenceIdeal) (hPre_every_row_masked := hPre_every_row_masked)
    ∧ preserves_Kernel_KernelIdeal
    ∧ algebraic_KernelIdeal_ReferenceIdeal_pre_every_row_masked (hKernelIdeal := hKernelIdeal) (hReferenceIdeal := hReferenceIdeal) (hPre_every_row_masked := hPre_every_row_masked)
-- ==== Pre_every_row_masked.lean ====
abbrev S32x2048x256 : Shape := ⟨3, ![32, 2048, 256]⟩
abbrev S32x2048 : Shape := ⟨2, ![32, 2048]⟩
abbrev S256x256x2 : Shape := ⟨3, ![256, 256, 2]⟩
abbrev S256 : Shape := ⟨1, ![256]⟩
abbrev S_ : Shape := ⟨0, ![]⟩

class Facts : Prop where
  reducesTo_S32x2048_S_d0_1 : S32x2048.ReducesTo [0, 1] S_
  h_S_ : 0 < S_.numel

variable [Facts]

def fn {F : FTy → Type} [FloatOps F] (main_arg0 : FVec F S32x2048x256 .f32) (main_arg1 : FVec F S32x2048x256 .f32) (main_arg2 : IVec S32x2048 1) (main_arg3 : FVec F S256x256x2 .f32) (main_arg4 : FVec F S256 .f32) : IVec S_ 1 :=
  let main_c : IVec S_ 1 := constantI S_ 1 1#1
  let main_v0 : IVec S_ 1 := (fun x v => Host.reduce IntOp.andi x v reducesTo_S32x2048_S_d0_1 h_S_) main_arg2 main_c
  main_v0
-- ==== Kernel.lean ====
abbrev S32x2048x256 : Shape := ⟨3, ![32, 2048, 256]⟩
abbrev S32x2048 : Shape := ⟨2, ![32, 2048]⟩
abbrev S256x256x2 : Shape := ⟨3, ![256, 256, 2]⟩
abbrev S256 : Shape := ⟨1, ![256]⟩
abbrev S2x256x256 : Shape := ⟨3, ![2, 256, 256]⟩
abbrev S512x256 : Shape := ⟨2, ![512, 256]⟩
abbrev S1x256 : Shape := ⟨2, ![1, 256]⟩
abbrev S32x1024x256 : Shape := ⟨3, ![32, 1024, 256]⟩
abbrev S3x4x2048x256 : Shape := ⟨4, ![3, 4, 2048, 256]⟩
abbrev S3x4x1024x256 : Shape := ⟨4, ![3, 4, 1024, 256]⟩
abbrev S3 : Shape := ⟨1, ![3]⟩
abbrev S1 : Shape := ⟨1, ![1]⟩
abbrev S_ : Shape := ⟨0, ![]⟩
abbrev S1x4x2048x256 : Shape := ⟨4, ![1, 4, 2048, 256]⟩
abbrev S4x2048x256 : Shape := ⟨3, ![4, 2048, 256]⟩
abbrev S4x1024x256 : Shape := ⟨3, ![4, 1024, 256]⟩
abbrev S1x4x1024x256 : Shape := ⟨4, ![1, 4, 1024, 256]⟩
abbrev S4096x512 : Shape := ⟨2, ![4096, 512]⟩
abbrev S4096x256 : Shape := ⟨2, ![4096, 256]⟩

abbrev nBuf : Space → Nat
  | .hbm => 9
  | .vmem => 4
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048, .i1⟩
  | .hbm, ⟨3, _⟩ => ⟨S256x256x2, .f32⟩
  | .hbm, ⟨4, _⟩ => ⟨S256, .f32⟩
  | .hbm, ⟨5, _⟩ => ⟨S2x256x256, .f32⟩
  | .hbm, ⟨6, _⟩ => ⟨S512x256, .f32⟩
  | .hbm, ⟨7, _⟩ => ⟨S1x256, .f32⟩
  | .hbm, ⟨8, _⟩ => ⟨S32x1024x256, .f32⟩
  | .local _ .vmem, ⟨0, _⟩ => ⟨S512x256, .f32⟩
  | .local _ .vmem, ⟨1, _⟩ => ⟨S1x256, .f32⟩
  | .local _ .vmem, ⟨2, _⟩ => ⟨S3x4x2048x256, .f32⟩
  | .local _ .vmem, ⟨3, _⟩ => ⟨S3x4x1024x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c8_i32 : BitVec 32 := 8#32
  let v6 : BitVec 1 := Scalar.cmpi .slt v5 c8_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c3_i32_26 : BitVec 32 := 3#32
  let v45 : BitVec 32 := Scalar.remsi v5 c3_i32_26
  ![v45.toNat]
def k0_off2 (i : grid0.Coords) : Fin 4 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c3_i32_26 : BitVec 32 := 3#32
  let v45 : BitVec 32 := Scalar.remsi v5 c3_i32_26
  let c0_i32_28 : BitVec 32 := 0#32
  let c0_i32_29 : BitVec 32 := 0#32
  let c0_i32_30 : BitVec 32 := 0#32
  ![v45.toNat, 0, 0, 0]
def k0_off3 (i : grid0.Coords) : Fin 3 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c4_i32_27 : BitVec 32 := 4#32
  let v46 : BitVec 32 := Scalar.muli v5 c4_i32_27
  let c0_i32_31 : BitVec 32 := 0#32
  let c0_i32_32 : BitVec 32 := 0#32
  ![v46.toNat, 0, 0]
def k0_off4 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off5 (i : grid0.Coords) : Fin 4 → Nat :=
  let arg0 : BitVec 32 := BitVec.ofNat 32 (i 0).val
  let c3_i32 : BitVec 32 := 3#32
  let v0 : BitVec 32 := Scalar.remsi arg0 c3_i32
  let c0_i32_3 : BitVec 32 := 0#32
  let c0_i32_4 : BitVec 32 := 0#32
  let c0_i32_5 : BitVec 32 := 0#32
  ![v0.toNat, 0, 0, 0]
def k0_off6 (i : grid0.Coords) : Fin 3 → Nat :=
  let arg0 : BitVec 32 := BitVec.ofNat 32 (i 0).val
  let c4_i32 : BitVec 32 := 4#32
  let v9 : BitVec 32 := Scalar.muli arg0 c4_i32
  let c0_i32_6 : BitVec 32 := 0#32
  let c0_i32_7 : BitVec 32 := 0#32
  ![v9.toNat, 0, 0]
def k0_cond3 (i : grid0.Coords) : BitVec 1 :=
  let arg0 : BitVec 32 := BitVec.ofNat 32 (i 0).val
  let c3_i32_8 : BitVec 32 := 3#32
  let v15 : BitVec 1 := Scalar.cmpi .sge arg0 c3_i32_8
  let v16 : BitVec 32 := Scalar.extui v15
  let c0_i32_9 : BitVec 32 := 0#32
  let v17 : BitVec 1 := Scalar.cmpi .ne v16 c0_i32_9
  v17

def k0_off7 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off8 (i : grid0.Coords) : Fin 3 → Nat :=
  let arg0 : BitVec 32 := BitVec.ofNat 32 (i 0).val
  let c3_i32_26 : BitVec 32 := 3#32
  let v45 : BitVec 32 := Scalar.subi arg0 c3_i32_26
  let c4_i32_27 : BitVec 32 := 4#32
  let v46 : BitVec 32 := Scalar.muli v45 c4_i32_27
  let c0_i32_28 : BitVec 32 := 0#32
  let c0_i32_29 : BitVec 32 := 0#32
  ![v46.toNat, 0, 0]
def k0_off9 (i : grid0.Coords) : Fin 4 → Nat :=
  let arg0 : BitVec 32 := BitVec.ofNat 32 (i 0).val
  let c3_i32 : BitVec 32 := 3#32
  let v0 : BitVec 32 := Scalar.remsi arg0 c3_i32
  let c0_i32_30 : BitVec 32 := 0#32
  let c0_i32_31 : BitVec 32 := 0#32
  let c0_i32_32 : BitVec 32 := 0#32
  ![v0.toNat, 0, 0, 0]
def k0_off10 (i : grid0.Coords) : Fin 4 → Nat :=
  let arg0 : BitVec 32 := BitVec.ofNat 32 (i 0).val
  let c3_i32 : BitVec 32 := 3#32
  let v0 : BitVec 32 := Scalar.remsi arg0 c3_i32
  let v18 : Index := Scalar.indexCast v0
  let c0 : Index := 0#32
  let c0_10 : Index := 0#32
  let c0_11 : Index := 0#32
  ![v18.toNat, 0, 0, 0]
def k0_off11 (i : grid0.Coords) : Fin 4 → Nat :=
  let arg0 : BitVec 32 := BitVec.ofNat 32 (i 0).val
  let c3_i32 : BitVec 32 := 3#32
  let v0 : BitVec 32 := Scalar.remsi arg0 c3_i32
  let v32 : Index := Scalar.indexCast v0
  let c0_16 : Index := 0#32
  let c0_17 : Index := 0#32
  let c0_18 : Index := 0#32
  ![v32.toNat, 0, 0, 0]
def k0_off12 (i : grid0.Coords) : Fin 3 → Nat :=
  let arg0 : BitVec 32 := BitVec.ofNat 32 (i 0).val
  let c4_i32_19 : BitVec 32 := 4#32
  let v36 : BitVec 32 := Scalar.muli arg0 c4_i32_19
  let c0_i32_20 : BitVec 32 := 0#32
  let c0_i32_21 : BitVec 32 := 0#32
  ![v36.toNat, 0, 0]
def k0_off13 (i : grid0.Coords) : Fin 4 → Nat :=
  let arg0 : BitVec 32 := BitVec.ofNat 32 (i 0).val
  let c3_i32 : BitVec 32 := 3#32
  let v0 : BitVec 32 := Scalar.remsi arg0 c3_i32
  let c0_i32_22 : BitVec 32 := 0#32
  let c0_i32_23 : BitVec 32 := 0#32
  let c0_i32_24 : BitVec 32 := 0#32
  ![v0.toNat, 0, 0, 0]
def k0_cond4 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_25 : BitVec 32 := 0#32
  let v44 : BitVec 1 := Scalar.cmpi .ne v43 c0_i32_25
  v44

def k0_cond5 (i : grid0.Coords) : BitVec 1 :=
  let arg0 : BitVec 32 := BitVec.ofNat 32 (i 0).val
  let c0_i32_26 : BitVec 32 := 0#32
  let v45 : BitVec 32 := Scalar.subi arg0 c0_i32_26
  let c0_i32_27 : BitVec 32 := 0#32
  let v46 : BitVec 1 := Scalar.cmpi .sge v45 c0_i32_27
  let v47 : BitVec 32 := Scalar.extui v46
  let c0_i32_28 : BitVec 32 := 0#32
  let v48 : BitVec 1 := Scalar.cmpi .ne v47 c0_i32_28
  v48

def k0_off14 (i : grid0.Coords) : Fin 1 → Nat :=
  let arg0 : BitVec 32 := BitVec.ofNat 32 (i 0).val
  let c0_i32_26 : BitVec 32 := 0#32
  let v45 : BitVec 32 := Scalar.subi arg0 c0_i32_26
  let c3_i32_34 : BitVec 32 := 3#32
  let v57 : BitVec 32 := Scalar.remsi v45 c3_i32_34
  ![v57.toNat]
def k0_off15 (i : grid0.Coords) : Fin 3 → Nat :=
  let arg0 : BitVec 32 := BitVec.ofNat 32 (i 0).val
  let c0_i32_26 : BitVec 32 := 0#32
  let v45 : BitVec 32 := Scalar.subi arg0 c0_i32_26
  let c4_i32_35 : BitVec 32 := 4#32
  let v58 : BitVec 32 := Scalar.muli v45 c4_i32_35
  let c0_i32_36 : BitVec 32 := 0#32
  let c0_i32_37 : BitVec 32 := 0#32
  ![v58.toNat, 0, 0]
def k0_off16 (i : grid0.Coords) : Fin 4 → Nat :=
  let arg0 : BitVec 32 := BitVec.ofNat 32 (i 0).val
  let c0_i32_26 : BitVec 32 := 0#32
  let v45 : BitVec 32 := Scalar.subi arg0 c0_i32_26
  let c3_i32_34 : BitVec 32 := 3#32
  let v57 : BitVec 32 := Scalar.remsi v45 c3_i32_34
  let c0_i32_38 : BitVec 32 := 0#32
  let c0_i32_39 : BitVec 32 := 0#32
  let c0_i32_40 : BitVec 32 := 0#32
  ![v57.toNat, 0, 0, 0]
def k0_cond6 (i : grid0.Coords) : BitVec 1 :=
  let arg0 : BitVec 32 := BitVec.ofNat 32 (i 0).val
  let c1_i32_29 : BitVec 32 := 1#32
  let v49 : BitVec 32 := Scalar.subi arg0 c1_i32_29
  let c0_i32_30 : BitVec 32 := 0#32
  let v50 : BitVec 1 := Scalar.cmpi .sge v49 c0_i32_30
  let v51 : BitVec 32 := Scalar.extui v50
  let c0_i32_31 : BitVec 32 := 0#32
  let v52 : BitVec 1 := Scalar.cmpi .ne v51 c0_i32_31
  v52

def k0_off17 (i : grid0.Coords) : Fin 1 → Nat :=
  let arg0 : BitVec 32 := BitVec.ofNat 32 (i 0).val
  let c1_i32_29 : BitVec 32 := 1#32
  let v49 : BitVec 32 := Scalar.subi arg0 c1_i32_29
  let c3_i32_34 : BitVec 32 := 3#32
  let v57 : BitVec 32 := Scalar.remsi v49 c3_i32_34
  ![v57.toNat]
def k0_off18 (i : grid0.Coords) : Fin 3 → Nat :=
  let arg0 : BitVec 32 := BitVec.ofNat 32 (i 0).val
  let c1_i32_29 : BitVec 32 := 1#32
  let v49 : BitVec 32 := Scalar.subi arg0 c1_i32_29
  let c4_i32_35 : BitVec 32 := 4#32
  let v58 : BitVec 32 := Scalar.muli v49 c4_i32_35
  let c0_i32_36 : BitVec 32 := 0#32
  let c0_i32_37 : BitVec 32 := 0#32
  ![v58.toNat, 0, 0]
def k0_off19 (i : grid0.Coords) : Fin 4 → Nat :=
  let arg0 : BitVec 32 := BitVec.ofNat 32 (i 0).val
  let c1_i32_29 : BitVec 32 := 1#32
  let v49 : BitVec 32 := Scalar.subi arg0 c1_i32_29
  let c3_i32_34 : BitVec 32 := 3#32
  let v57 : BitVec 32 := Scalar.remsi v49 c3_i32_34
  let c0_i32_38 : BitVec 32 := 0#32
  let c0_i32_39 : BitVec 32 := 0#32
  let c0_i32_40 : BitVec 32 := 0#32
  ![v57.toNat, 0, 0, 0]
def k0_cond7 (i : grid0.Coords) : BitVec 1 :=
  let arg0 : BitVec 32 := BitVec.ofNat 32 (i 0).val
  let c2_i32 : BitVec 32 := 2#32
  let v53 : BitVec 32 := Scalar.subi arg0 c2_i32
  let c0_i32_32 : BitVec 32 := 0#32
  let v54 : BitVec 1 := Scalar.cmpi .sge v53 c0_i32_32
  let v55 : BitVec 32 := Scalar.extui v54
  let c0_i32_33 : BitVec 32 := 0#32
  let v56 : BitVec 1 := Scalar.cmpi .ne v55 c0_i32_33
  v56

def k0_off20 (i : grid0.Coords) : Fin 1 → Nat :=
  let arg0 : BitVec 32 := BitVec.ofNat 32 (i 0).val
  let c2_i32 : BitVec 32 := 2#32
  let v53 : BitVec 32 := Scalar.subi arg0 c2_i32
  let c3_i32_34 : BitVec 32 := 3#32
  let v57 : BitVec 32 := Scalar.remsi v53 c3_i32_34
  ![v57.toNat]
def k0_off21 (i : grid0.Coords) : Fin 3 → Nat :=
  let arg0 : BitVec 32 := BitVec.ofNat 32 (i 0).val
  let c2_i32 : BitVec 32 := 2#32
  let v53 : BitVec 32 := Scalar.subi arg0 c2_i32
  let c4_i32_35 : BitVec 32 := 4#32
  let v58 : BitVec 32 := Scalar.muli v53 c4_i32_35
  let c0_i32_36 : BitVec 32 := 0#32
  let c0_i32_37 : BitVec 32 := 0#32
  ![v58.toNat, 0, 0]
def k0_off22 (i : grid0.Coords) : Fin 4 → Nat :=
  let arg0 : BitVec 32 := BitVec.ofNat 32 (i 0).val
  let c2_i32 : BitVec 32 := 2#32
  let v53 : BitVec 32 := Scalar.subi arg0 c2_i32
  let c3_i32_34 : BitVec 32 := 3#32
  let v57 : BitVec 32 := Scalar.remsi v53 c3_i32_34
  let c0_i32_38 : BitVec 32 := 0#32
  let c0_i32_39 : BitVec 32 := 0#32
  let c0_i32_40 : BitVec 32 := 0#32
  ![v57.toNat, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x2048x256 : Shape := ⟨3, ![32, 2048, 256]⟩
abbrev S32x2048 : Shape := ⟨2, ![32, 2048]⟩
abbrev S256x256x2 : Shape := ⟨3, ![256, 256, 2]⟩
abbrev S256 : Shape := ⟨1, ![256]⟩
abbrev S65536x256 : Shape := ⟨2, ![65536, 256]⟩
abbrev S65536 : Shape := ⟨1, ![65536]⟩
abbrev S_ : Shape := ⟨0, ![]⟩
abbrev S65536x1 : Shape := ⟨2, ![65536, 1]⟩
abbrev S1 : Shape := ⟨1, ![1]⟩
abbrev S32x1024x256 : Shape := ⟨3, ![32, 1024, 256]⟩
abbrev S256x256x1 : Shape := ⟨3, ![256, 256, 1]⟩
abbrev S256x256 : Shape := ⟨2, ![256, 256]⟩
abbrev S1x1x256 : Shape := ⟨3, ![1, 1, 256]⟩

abbrev nBuf : Space → Nat
  | .hbm => 101
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048, .i1⟩
  | .hbm, ⟨3, _⟩ => ⟨S256x256x2, .f32⟩
  | .hbm, ⟨4, _⟩ => ⟨S256, .f32⟩
  | .hbm, ⟨5, _⟩ => ⟨S65536x256, .f32⟩
  | .hbm, ⟨6, _⟩ => ⟨S65536x256, .f32⟩
  | .hbm, ⟨7, _⟩ => ⟨S65536, .i1⟩
  | .hbm, ⟨8, _⟩ => ⟨S65536, .i32⟩
  | .hbm, ⟨9, _⟩ => ⟨S_, .i32⟩
  | .hbm, ⟨10, _⟩ => ⟨S_, .i32⟩
  | .hbm, ⟨11, _⟩ => ⟨S65536, .i32⟩
  | .hbm, ⟨12, _⟩ => ⟨S_, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S_, .i32⟩
  | .hbm, ⟨26, _⟩ => ⟨S_, .i32⟩
  | .hbm, ⟨27, _⟩ => ⟨S65536, .i32⟩
  | .hbm, ⟨28, _⟩ => ⟨S_, .i32⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S65536, .i32⟩
  | .hbm, ⟨37, _⟩ => ⟨S65536, .i32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S_, .i32⟩
  | .hbm, ⟨55, _⟩ => ⟨S65536, .i32⟩
  | .hbm, ⟨56, _⟩ => ⟨S65536, .i1⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S_, .i1⟩
  | .hbm, ⟨62, _⟩ => ⟨S65536, .i1⟩
  | .hbm, ⟨63, _⟩ => ⟨S65536, .i1⟩
  | .hbm, ⟨64, _⟩ => ⟨S65536, .i1⟩
  | .hbm, ⟨65, _⟩ => ⟨S65536, .i32⟩
  | .hbm, ⟨66, _⟩ => ⟨S65536, .i32⟩
  | .hbm, ⟨67, _⟩ => ⟨S65536, .i32⟩
  | .hbm, ⟨68, _⟩ => ⟨S65536, .i32⟩
  | .hbm, ⟨69, _⟩ => ⟨S_, .i32⟩
  | .hbm, ⟨70, _⟩ => ⟨S_, .i32⟩
  | .hbm, ⟨71, _⟩ => ⟨S1, .i32⟩
  | .hbm, ⟨72, _⟩ => ⟨S65536, .i32⟩
  | .hbm, ⟨73, _⟩ => ⟨S65536, .i32⟩
  | .hbm, ⟨74, _⟩ => ⟨S65536, .i1⟩
  | .hbm, ⟨75, _⟩ => ⟨S_, .i32⟩
  | .hbm, ⟨76, _⟩ => ⟨S1, .i32⟩
  | .hbm, ⟨77, _⟩ => ⟨S65536, .i32⟩
  | .hbm, ⟨78, _⟩ => ⟨S65536, .i32⟩
  | .hbm, ⟨79, _⟩ => ⟨S_, .i32⟩
  | .hbm, ⟨80, _⟩ => ⟨S65536, .i32⟩
  | .hbm, ⟨81, _⟩ => ⟨S65536, .i1⟩
  | .hbm, ⟨82, _⟩ => ⟨S_, .i32⟩
  | .hbm, ⟨83, _⟩ => ⟨S65536, .i32⟩
  | .hbm, ⟨84, _⟩ => ⟨S65536, .i32⟩
  | .hbm, ⟨85, _⟩ => ⟨S65536, .i32⟩
  | .hbm, ⟨86, _⟩ => ⟨S65536x1, .i32⟩
  | .hbm, ⟨87, _⟩ => ⟨S65536x256, .f32⟩
  | .hbm, ⟨88, _⟩ => ⟨S32x2048x256, .f32⟩
  | .hbm, ⟨89, _⟩ => ⟨S32x1024x256, .f32⟩
  | .hbm, ⟨90, _⟩ => ⟨S256x256x1, .f32⟩
  | .hbm, ⟨91, _⟩ => ⟨S256x256, .f32⟩
  | .hbm, ⟨92, _⟩ => ⟨S32x1024x256, .f32⟩
  | .hbm, ⟨93, _⟩ => ⟨S32x1024x256, .f32⟩
  | .hbm, ⟨94, _⟩ => ⟨S256x256x1, .f32⟩
  | .hbm, ⟨95, _⟩ => ⟨S256x256, .f32⟩
  | .hbm, ⟨96, _⟩ => ⟨S32x1024x256, .f32⟩
  | .hbm, ⟨97, _⟩ => ⟨S32x1024x256, .f32⟩
  | .hbm, ⟨98, _⟩ => ⟨S1x1x256, .f32⟩
  | .hbm, ⟨99, _⟩ => ⟨S32x1024x256, .f32⟩
  | .hbm, ⟨100, _⟩ => ⟨S32x1024x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_call1_call0_c : Ref sig .tc := ⟨.hbm, 25, rfl⟩
abbrev main_call1_call0_v0 : Ref sig .tc := ⟨.hbm, 26, rfl⟩
abbrev main_v13 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v14 : Ref sig .tc := ⟨.hbm, 45, rfl⟩
abbrev main_c_4 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_1 : Ref sig .tc := ⟨.hbm, 54, rfl⟩
abbrev main_call3_v5 : Ref sig .tc := ⟨.hbm, 55, rfl⟩
abbrev main_call3_v6 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_c_3 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_v15 : Ref sig .tc := ⟨.hbm, 67, rfl⟩
abbrev main_v16 : Ref sig .tc := ⟨.hbm, 68, rfl⟩
abbrev main_c_5 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_c_6 : Ref sig .tc := ⟨.hbm, 75, rfl⟩
abbrev main_v22 : Ref sig .tc := ⟨.hbm, 76, rfl⟩
abbrev main_call4_v0 : Ref sig .tc := ⟨.hbm, 77, rfl⟩
abbrev main_v23 : Ref sig .tc := ⟨.hbm, 78, rfl⟩
abbrev main_c_7 : Ref sig .tc := ⟨.hbm, 79, rfl⟩
abbrev main_v24 : Ref sig .tc := ⟨.hbm, 80, rfl⟩
abbrev main_v25 : Ref sig .tc := ⟨.hbm, 81, rfl⟩
abbrev main_c_8 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩

abbrev nD : Nat := 1
abbrev τ : Topo := Topo.v7x

variable {F : FTy → Type} [FloatOps F]
-- ==== Proof.Exact.Names.lean ====
/- Names for the places the kernel's own copies move between: the eight row blocks of the child array and of the result
   in HBM, the three input and three output slots in VMEM, and one DMA counter per slot; and the equations that turn the
   body's offset computations at grid point `t` into these names. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.Sem

instance gridNonempty : NeZero grid0.N := ⟨by rw [N_0]; decide⟩

/-! ## Which steps of the body run at a grid point -/

/-- The body's test for the first grid point. -/
abbrev isFirst (i : grid0.Coords) : Prop :=
  (Scalar.cmpi .ne (Scalar.extui (Scalar.cmpi .eq (BitVec.ofNat 32 (i 0).val) 0#32)) 0#32) = 1#1

set_option synthInstance.maxSize 4096 in
/-- The opening copies are issued at point 0 only. -/
theorem isFirst_iff : ∀ t : Fin grid0.N, isFirst (grid0.coords t) ↔ t.val = 0 := by decide +kernel
set_option synthInstance.maxSize 4096 in
/-- A block is fetched ahead while two more blocks remain. -/
theorem fetches_iff : ∀ t : Fin grid0.N, k0_cond2 (grid0.coords t) = 1#1 ↔ t.val < 6 := by decide +kernel
set_option synthInstance.maxSize 4096 in
/-- A slot's previous write-back is waited for from point 3 on. -/
theorem reclaims_iff : ∀ t : Fin grid0.N, k0_cond3 (grid0.coords t) = 1#1 ↔ 3 ≤ t.val := by decide +kernel
set_option synthInstance.maxSize 4096 in
/-- The closing waits run at the last point only. -/
theorem isLast_iff : ∀ t : Fin grid0.N, k0_cond4 (grid0.coords t) = 1#1 ↔ t.val = 7 := by decide +kernel
set_option synthInstance.maxSize 4096 in
/-- The closing wait for this point's own block is never skipped. -/
theorem drains0 : ∀ t : Fin grid0.N, k0_cond5 (grid0.coords t) = 1#1 := by decide +kernel
set_option synthInstance.maxSize 4096 in
/-- The closing wait for the block before needs one block before. -/
theorem drains1_iff : ∀ t : Fin grid0.N, k0_cond6 (grid0.coords t) = 1#1 ↔ 1 ≤ t.val := by decide +kernel
set_option synthInstance.maxSize 4096 in
/-- The closing wait for the block two before needs two blocks before. -/
theorem drains2_iff : ∀ t : Fin grid0.N, k0_cond7 (grid0.coords t) = 1#1 ↔ 2 ≤ t.val := by decide +kernel

/-! ## Slots, blocks and counters -/

/-- The input slots and the output slots, as the kernel receives them. -/
abbrev inBuf : Memref sig .tc .vmem S3x4x2048x256 .f32 := Memref.whole cc0_scratch0
abbrev outBuf : Memref sig .tc .vmem S3x4x1024x256 .f32 := Memref.whole cc0_scratch1
/-- The child array and the result, left in HBM. -/
abbrev childM : Memref sig .tc .hbm S32x2048x256 .f32 := Memref.whole main_arg1
abbrev resM : Memref sig .tc .hbm S32x1024x256 .f32 := Memref.whole main_v3

/-- Each input slot lies within the input buffer. -/
theorem inSlot_fits (s : Fin 3) : ∀ a, (![s.val, 0, 0, 0] : Fin 4 → Nat) a + S1x4x2048x256.size a ≤ S3x4x2048x256.size a := by
  have := s.isLt; intro a; fin_cases a <;> simp <;> omega
/-- Each block lies within the child array. -/
theorem inBlock_fits (b : Fin 8) : ∀ a, (![4 * b.val, 0, 0] : Fin 3 → Nat) a + S4x2048x256.size a ≤ S32x2048x256.size a := by
  have := b.isLt; intro a; fin_cases a <;> simp <;> omega
/-- Each counter lies within its array of counters. -/
theorem cell_fits (s : Fin 3) : ∀ a, (![s.val] : Fin 1 → Nat) a + S1.size a ≤ S3.size a := by
  have := s.isLt; intro a; fin_cases a <;> simp <;> omega
/-- Each output slot lies within the output buffer. -/
theorem outSlot_fits (g : Fin 3) : ∀ a, (![g.val, 0, 0, 0] : Fin 4 → Nat) a + S1x4x1024x256.size a ≤ S3x4x1024x256.size a := by
  have := g.isLt; intro a; fin_cases a <;> simp <;> omega
/-- Each block lies within the result. -/
theorem outBlock_fits (u : Fin 8) : ∀ a, (![4 * u.val, 0, 0] : Fin 3 → Nat) a + S4x1024x256.size a ≤ S32x1024x256.size a := by
  have := u.isLt; intro a; fin_cases a <;> simp <;> omega

/-- Input slot `s`: four batch rows of the child array. -/
def inSlot (s : Fin 3) : Memref sig .tc .vmem S4x2048x256 .f32 :=
  (inBuf.slice (Rect.unit (s := S3x4x2048x256) ![s.val, 0, 0, 0] S1x4x2048x256.size (inSlot_fits s)) (fun _ => rfl)).squeeze
    S4x2048x256 squeezes_S1x4x2048x256_S4x2048x256
/-- Block `b` of the child array: batch rows `4 b` to `4 b + 3`. -/
def inBlock (b : Fin 8) : Memref sig .tc .hbm S4x2048x256 .f32 :=
  childM.slice (Rect.unit (s := S32x2048x256) ![4 * b.val, 0, 0] S4x2048x256.size (inBlock_fits b)) (fun _ => rfl)
/-- The counter of input slot `s`. -/
def inCell (s : Fin 3) : DmaSems sig S_ :=
  (cc0_scratch2.slice (Rect.unit (s := S3) ![s.val] S1.size (cell_fits s))).squeeze S_ squeezes_S1_S_
/-- Output slot `g`: four batch rows of the result. -/
def outSlot (g : Fin 3) : Memref sig .tc .vmem S4x1024x256 .f32 :=
  (outBuf.slice (Rect.unit (s := S3x4x1024x256) ![g.val, 0, 0, 0] S1x4x1024x256.size (outSlot_fits g)) (fun _ => rfl)).squeeze
    S4x1024x256 squeezes_S1x4x1024x256_S4x1024x256
/-- Block `u` of the result: batch rows `4 u` to `4 u + 3`. -/
def outBlock (u : Fin 8) : Memref sig .tc .hbm S4x1024x256 .f32 :=
  resM.slice (Rect.unit (s := S32x1024x256) ![4 * u.val, 0, 0] S4x1024x256.size (outBlock_fits u)) (fun _ => rfl)
/-- The counter of output slot `g`. -/
def outCell (g : Fin 3) : DmaSems sig S_ :=
  (cc0_scratch3.slice (Rect.unit (s := S3) ![g.val] S1.size (cell_fits g))).squeeze S_ squeezes_S1_S_

abbrev inSem (s : Fin 3) : SemLoc sig := SemLoc.dma (inCell s).sem
abbrev outSem (g : Fin 3) : SemLoc sig := SemLoc.dma (outCell g).sem

/-! ## The slices a body makes, named -/

/-- A slice of the input buffer starting at slot `s` is that slot. -/
theorem inSlot_of {o : Fin 4 → Nat} {s : Fin 3} (e : o = ![s.val, 0, 0, 0]) (h) (hs) :
    (inBuf.slice (Rect.unit (s := S3x4x2048x256) o S1x4x2048x256.size h) hs).squeeze S4x2048x256 squeezes_S1x4x2048x256_S4x2048x256 = inSlot s := by
  subst e; rfl
/-- A slice of the child array starting at block `b` is that block. -/
theorem inBlock_of {o : Fin 3 → Nat} {b : Fin 8} (e : o = ![4 * b.val, 0, 0]) (h) (hs) :
    childM.slice (Rect.unit (s := S32x2048x256) o S4x2048x256.size h) hs = inBlock b := by
  subst e; rfl
/-- The input counter picked at `s`. -/
theorem inCell_of {o : Fin 1 → Nat} {s : Fin 3} (e : o = ![s.val]) (h) :
    (cc0_scratch2.slice (Rect.unit (s := S3) o S1.size h)).squeeze S_ squeezes_S1_S_ = inCell s := by
  subst e; rfl
/-- A slice of the output buffer starting at slot `g` is that slot. -/
theorem outSlot_of {o : Fin 4 → Nat} {g : Fin 3} (e : o = ![g.val, 0, 0, 0]) (h) (hs) :
    (outBuf.slice (Rect.unit (s := S3x4x1024x256) o S1x4x1024x256.size h) hs).squeeze S4x1024x256 squeezes_S1x4x1024x256_S4x1024x256 = outSlot g := by
  subst e; rfl
/-- A slice of the result starting at block `u` is that block. -/
theorem outBlock_of {o : Fin 3 → Nat} {u : Fin 8} (e : o = ![4 * u.val, 0, 0]) (h) (hs) :
    resM.slice (Rect.unit (s := S32x1024x256) o S4x1024x256.size h) hs = outBlock u := by
  subst e; rfl
/-- The output counter picked at `g`. -/
theorem outCell_of {o : Fin 1 → Nat} {g : Fin 3} (e : o = ![g.val]) (h) :
    (cc0_scratch3.slice (Rect.unit (s := S3) o S1.size h)).squeeze S_ squeezes_S1_S_ = outCell g := by
  subst e; rfl

section Offsets
set_option synthInstance.maxSize 4096

/-! The offsets the body computes, at grid point `t`. -/

/-- The counter of the input two points ahead. -/
theorem off1_at : ∀ t : Fin grid0.N, k0_off1 (grid0.coords t) = ![(Ring.sl 3 (t.val + 2)).val] := by decide +kernel
/-- The slot of the input two points ahead. -/
theorem off2_at : ∀ t : Fin grid0.N, k0_off2 (grid0.coords t) = ![(Ring.sl 3 (t.val + 2)).val, 0, 0, 0] := by decide +kernel
/-- The block of the child array fetched two points ahead. -/
theorem off3_at : ∀ t : Fin grid0.N, k0_cond2 (grid0.coords t) = 1#1 → k0_off3 (grid0.coords t) = ![4 * (Ring.bk 8 (t.val + 2)).val, 0, 0] := by decide +kernel
/-- The counter of the input waited for, and of the output copied out. -/
theorem off4_at : ∀ t : Fin grid0.N, k0_off4 (grid0.coords t) = ![(Ring.sl 3 t.val).val] := by decide +kernel
/-- The slot of the input waited for. -/
theorem off5_at : ∀ t : Fin grid0.N, k0_off5 (grid0.coords t) = ![(Ring.sl 3 t.val).val, 0, 0, 0] := by decide +kernel
/-- The counter of the output waited for before its slot is used again. -/
theorem off7_at : ∀ t : Fin grid0.N, k0_cond3 (grid0.coords t) = 1#1 → k0_off7 (grid0.coords t) = ![(Ring.sl 3 t.val).val] := by decide +kernel
/-- The slot of the output waited for. -/
theorem off9_at : ∀ t : Fin grid0.N, k0_cond3 (grid0.coords t) = 1#1 → k0_off9 (grid0.coords t) = ![(Ring.sl 3 t.val).val, 0, 0, 0] := by decide +kernel
/-- The input slot loaded. -/
theorem off10_at : ∀ t : Fin grid0.N, k0_off10 (grid0.coords t) = ![(Ring.sl 3 t.val).val, 0, 0, 0] := by decide +kernel
/-- The output slot stored to. -/
theorem off11_at : ∀ t : Fin grid0.N, k0_off11 (grid0.coords t) = ![(Ring.sl 3 t.val).val, 0, 0, 0] := by decide +kernel
/-- The block of the result written. -/
theorem off12_at : ∀ t : Fin grid0.N, k0_off12 (grid0.coords t) = ![4 * (Ring.bk 8 t.val).val, 0, 0] := by decide +kernel
/-- The output slot copied out. -/
theorem off13_at : ∀ t : Fin grid0.N, k0_off13 (grid0.coords t) = ![(Ring.sl 3 t.val).val, 0, 0, 0] := by decide +kernel
/-- At the last point: the counter of that point's output. -/
theorem off14_at : ∀ t : Fin grid0.N, k0_off14 (grid0.coords t) = ![(Ring.sl 3 t.val).val] := by decide +kernel
/-- At the last point: the output slot of that point, drained. -/
theorem off16_at : ∀ t : Fin grid0.N, k0_off16 (grid0.coords t) = ![(Ring.sl 3 t.val).val, 0, 0, 0] := by decide +kernel
/-- At the last point: the counter of one of the two outputs before it. -/
theorem off17_at : ∀ t : Fin grid0.N, k0_cond6 (grid0.coords t) = 1#1 → k0_off17 (grid0.coords t) = ![(Ring.sl 3 (t.val + 2)).val] := by decide +kernel
/-- At the last point: the slot of that output. -/
theorem off19_at : ∀ t : Fin grid0.N, k0_cond6 (grid0.coords t) = 1#1 → k0_off19 (grid0.coords t) = ![(Ring.sl 3 (t.val + 2)).val, 0, 0, 0] := by decide +kernel
/-- At the last point: the counter of the other of the two outputs before it. -/
theorem off20_at : ∀ t : Fin grid0.N, k0_cond7 (grid0.coords t) = 1#1 → k0_off20 (grid0.coords t) = ![(Ring.sl 3 (t.val + 1)).val] := by decide +kernel
/-- At the last point: the slot of that output. -/
theorem off22_at : ∀ t : Fin grid0.N, k0_cond7 (grid0.coords t) = 1#1 → k0_off22 (grid0.coords t) = ![(Ring.sl 3 (t.val + 1)).val, 0, 0, 0] := by decide +kernel

/-- The fixed offsets of the opening copies, said at a point `t` known to be the first. -/
theorem first_slot0 (t : Fin grid0.N) (h : t.val = 0) : (![0, 0, 0, 0] : Fin 4 → Nat) = ![(Ring.sl 3 t.val).val, 0, 0, 0] := by rw [h]; rfl
/-- The slot of the second opening copy. -/
theorem first_slot1 (t : Fin grid0.N) (h : t.val = 0) : (![1, 0, 0, 0] : Fin 4 → Nat) = ![(Ring.sl 3 (t.val + 1)).val, 0, 0, 0] := by rw [h]; rfl
/-- The counter of the first opening copy. -/
theorem first_cell0 (t : Fin grid0.N) (h : t.val = 0) : (![0] : Fin 1 → Nat) = ![(Ring.sl 3 t.val).val] := by rw [h]; rfl
/-- The counter of the second opening copy. -/
theorem first_cell1 (t : Fin grid0.N) (h : t.val = 0) : (![1] : Fin 1 → Nat) = ![(Ring.sl 3 (t.val + 1)).val] := by rw [h]; rfl
/-- The block that the first opening copy fetches. -/
theorem first_block0 (t : Fin grid0.N) (h : t.val = 0) : (![0, 0, 0] : Fin 3 → Nat) = ![4 * (Ring.bk 8 t.val).val, 0, 0] := by rw [h]; rfl
/-- The block that the second opening copy fetches. -/
theorem first_block1 (t : Fin grid0.N) (h : t.val = 0) : (![4, 0, 0] : Fin 3 → Nat) = ![4 * (Ring.bk 8 (t.val + 1)).val, 0, 0] := by rw [h]; rfl
end Offsets

/-! The body's memrefs at grid point `t` under their names. -/

@[sl_canon] theorem fetch_slot (t : Fin grid0.N) (h : k0_cond2 (grid0.coords t) = 1#1) :
    (inBuf.slice (Rect.unit (s := S3x4x2048x256) (k0_off2 (grid0.coords t)) S1x4x2048x256.size (k0_off2_inb (grid0.coords t) h)) (fun _ => rfl)).squeeze
      S4x2048x256 squeezes_S1x4x2048x256_S4x2048x256 = inSlot (Ring.sl 3 (t.val + 2)) := inSlot_of (off2_at t) _ _
@[sl_canon] theorem fetch_cell (t : Fin grid0.N) (h : k0_cond2 (grid0.coords t) = 1#1) :
    (cc0_scratch2.slice (Rect.unit (s := S3) (k0_off1 (grid0.coords t)) S1.size (k0_off1_inb (grid0.coords t) h))).squeeze S_ squeezes_S1_S_
      = inCell (Ring.sl 3 (t.val + 2)) := inCell_of (off1_at t) _
@[sl_canon] theorem fetch_block (t : Fin grid0.N) (h : k0_cond2 (grid0.coords t) = 1#1) :
    childM.slice (Rect.unit (s := S32x2048x256) (k0_off3 (grid0.coords t)) S4x2048x256.size (k0_off3_inb (grid0.coords t) h)) (fun _ => rfl)
      = inBlock (Ring.bk 8 (t.val + 2)) := inBlock_of (off3_at t h) _ _
@[sl_canon] theorem await_cell (t : Fin grid0.N) :
    (cc0_scratch2.slice (Rect.unit (s := S3) (k0_off4 (grid0.coords t)) S1.size (k0_off4_inb (grid0.coords t)))).squeeze S_ squeezes_S1_S_
      = inCell (Ring.sl 3 t.val) := inCell_of (off4_at t) _
@[sl_canon] theorem await_slot (t : Fin grid0.N) :
    (inBuf.slice (Rect.unit (s := S3x4x2048x256) (k0_off5 (grid0.coords t)) S1x4x2048x256.size (k0_off5_inb (grid0.coords t))) (fun _ => rfl)).squeeze
      S4x2048x256 squeezes_S1x4x2048x256_S4x2048x256 = inSlot (Ring.sl 3 t.val) := inSlot_of (off5_at t) _ _
@[sl_canon] theorem reclaim_cell (t : Fin grid0.N) (h : k0_cond3 (grid0.coords t) = 1#1) :
    (cc0_scratch3.slice (Rect.unit (s := S3) (k0_off7 (grid0.coords t)) S1.size (k0_off7_inb (grid0.coords t) h))).squeeze S_ squeezes_S1_S_
      = outCell (Ring.sl 3 t.val) := outCell_of (off7_at t h) _
@[sl_canon] theorem reclaim_slot (t : Fin grid0.N) (h : k0_cond3 (grid0.coords t) = 1#1) :
    (outBuf.slice (Rect.unit (s := S3x4x1024x256) (k0_off9 (grid0.coords t)) S1x4x1024x256.size (k0_off9_inb (grid0.coords t) h)) (fun _ => rfl)).squeeze
      S4x1024x256 squeezes_S1x4x1024x256_S4x1024x256 = outSlot (Ring.sl 3 t.val) := outSlot_of (off9_at t h) _ _
@[sl_canon] theorem send_cell (t : Fin grid0.N) :
    (cc0_scratch3.slice (Rect.unit (s := S3) (k0_off4 (grid0.coords t)) S1.size (k0_off4_inb (grid0.coords t)))).squeeze S_ squeezes_S1_S_
      = outCell (Ring.sl 3 t.val) := outCell_of (off4_at t) _
@[sl_canon] theorem send_block (t : Fin grid0.N) :
    resM.slice (Rect.unit (s := S32x1024x256) (k0_off12 (grid0.coords t)) S4x1024x256.size (k0_off12_inb (grid0.coords t))) (fun _ => rfl)
      = outBlock (Ring.bk 8 t.val) := outBlock_of (off12_at t) _ _
@[sl_canon] theorem send_slot (t : Fin grid0.N) :
    (outBuf.slice (Rect.unit (s := S3x4x1024x256) (k0_off13 (grid0.coords t)) S1x4x1024x256.size (k0_off13_inb (grid0.coords t))) (fun _ => rfl)).squeeze
      S4x1024x256 squeezes_S1x4x1024x256_S4x1024x256 = outSlot (Ring.sl 3 t.val) := outSlot_of (off13_at t) _ _
@[sl_canon] theorem drain0_cell (t : Fin grid0.N) (h : k0_cond4 (grid0.coords t) = 1#1) (h' : k0_cond5 (grid0.coords t) = 1#1) :
    (cc0_scratch3.slice (Rect.unit (s := S3) (k0_off14 (grid0.coords t)) S1.size (k0_off14_inb (grid0.coords t) h h'))).squeeze S_ squeezes_S1_S_
      = outCell (Ring.sl 3 t.val) := outCell_of (off14_at t) _
@[sl_canon] theorem drain0_slot (t : Fin grid0.N) (h : k0_cond4 (grid0.coords t) = 1#1) (h' : k0_cond5 (grid0.coords t) = 1#1) :
    (outBuf.slice (Rect.unit (s := S3x4x1024x256) (k0_off16 (grid0.coords t)) S1x4x1024x256.size (k0_off16_inb (grid0.coords t) h h')) (fun _ => rfl)).squeeze
      S4x1024x256 squeezes_S1x4x1024x256_S4x1024x256 = outSlot (Ring.sl 3 t.val) := outSlot_of (off16_at t) _ _
@[sl_canon] theorem drain1_cell (t : Fin grid0.N) (h : k0_cond4 (grid0.coords t) = 1#1) (h' : k0_cond6 (grid0.coords t) = 1#1) :
    (cc0_scratch3.slice (Rect.unit (s := S3) (k0_off17 (grid0.coords t)) S1.size (k0_off17_inb (grid0.coords t) h h'))).squeeze S_ squeezes_S1_S_
      = outCell (Ring.sl 3 (t.val + 2)) := outCell_of (off17_at t h') _
@[sl_canon] theorem drain1_slot (t : Fin grid0.N) (h : k0_cond4 (grid0.coords t) = 1#1) (h' : k0_cond6 (grid0.coords t) = 1#1) :
    (outBuf.slice (Rect.unit (s := S3x4x1024x256) (k0_off19 (grid0.coords t)) S1x4x1024x256.size (k0_off19_inb (grid0.coords t) h h')) (fun _ => rfl)).squeeze
      S4x1024x256 squeezes_S1x4x1024x256_S4x1024x256 = outSlot (Ring.sl 3 (t.val + 2)) := outSlot_of (off19_at t h') _ _
@[sl_canon] theorem drain2_cell (t : Fin grid0.N) (h : k0_cond4 (grid0.coords t) = 1#1) (h' : k0_cond7 (grid0.coords t) = 1#1) :
    (cc0_scratch3.slice (Rect.unit (s := S3) (k0_off20 (grid0.coords t)) S1.size (k0_off20_inb (grid0.coords t) h h'))).squeeze S_ squeezes_S1_S_
      = outCell (Ring.sl 3 (t.val + 1)) := outCell_of (off20_at t h') _
@[sl_canon] theorem drain2_slot (t : Fin grid0.N) (h : k0_cond4 (grid0.coords t) = 1#1) (h' : k0_cond7 (grid0.coords t) = 1#1) :
    (outBuf.slice (Rect.unit (s := S3x4x1024x256) (k0_off22 (grid0.coords t)) S1x4x1024x256.size (k0_off22_inb (grid0.coords t) h h')) (fun _ => rfl)).squeeze
      S4x1024x256 squeezes_S1x4x1024x256_S4x1024x256 = outSlot (Ring.sl 3 (t.val + 1)) := outSlot_of (off22_at t h') _ _

/-! The same with the boxes' sizes written out. -/

@[sl_canon] theorem reclaim_cell' (t : Fin grid0.N) (h : k0_cond3 (grid0.coords t) = 1#1) :
    (cc0_scratch3.slice (Rect.unit (s := S3) (k0_off7 (grid0.coords t)) ![1] (k0_off7_inb (grid0.coords t) h))).squeeze S_ squeezes_S1_S_
      = outCell (Ring.sl 3 t.val) := reclaim_cell t h
@[sl_canon] theorem reclaim_slot' (t : Fin grid0.N) (h : k0_cond3 (grid0.coords t) = 1#1) :
    (outBuf.slice (Rect.unit (s := S3x4x1024x256) (k0_off9 (grid0.coords t)) ![1, 4, 1024, 256] (k0_off9_inb (grid0.coords t) h)) (fun _ => rfl)).squeeze
      S4x1024x256 squeezes_S1x4x1024x256_S4x1024x256 = outSlot (Ring.sl 3 t.val) := reclaim_slot t h
@[sl_canon] theorem send_cell' (t : Fin grid0.N) :
    (cc0_scratch3.slice (Rect.unit (s := S3) (k0_off4 (grid0.coords t)) ![1] (k0_off4_inb (grid0.coords t)))).squeeze S_ squeezes_S1_S_
      = outCell (Ring.sl 3 t.val) := send_cell t
@[sl_canon] theorem send_block' (t : Fin grid0.N) :
    resM.slice (Rect.unit (s := S32x1024x256) (k0_off12 (grid0.coords t)) ![4, 1024, 256] (k0_off12_inb (grid0.coords t))) (fun _ => rfl)
      = outBlock (Ring.bk 8 t.val) := send_block t
@[sl_canon] theorem send_slot' (t : Fin grid0.N) :
    (outBuf.slice (Rect.unit (s := S3x4x1024x256) (k0_off13 (grid0.coords t)) ![1, 4, 1024, 256] (k0_off13_inb (grid0.coords t))) (fun _ => rfl)).squeeze
      S4x1024x256 squeezes_S1x4x1024x256_S4x1024x256 = outSlot (Ring.sl 3 t.val) := send_slot t
@[sl_canon] theorem drain0_cell' (t : Fin grid0.N) (h : k0_cond4 (grid0.coords t) = 1#1) (h' : k0_cond5 (grid0.coords t) = 1#1) :
    (cc0_scratch3.slice (Rect.unit (s := S3) (k0_off14 (grid0.coords t)) ![1] (k0_off14_inb (grid0.coords t) h h'))).squeeze S_ squeezes_S1_S_
      = outCell (Ring.sl 3 t.val) := drain0_cell t h h'
@[sl_canon] theorem drain0_slot' (t : Fin grid0.N) (h : k0_cond4 (grid0.coords t) = 1#1) (h' : k0_cond5 (grid0.coords t) = 1#1) :
    (outBuf.slice (Rect.unit (s := S3x4x1024x256) (k0_off16 (grid0.coords t)) ![1, 4, 1024, 256] (k0_off16_inb (grid0.coords t) h h')) (fun _ => rfl)).squeeze
      S4x1024x256 squeezes_S1x4x1024x256_S4x1024x256 = outSlot (Ring.sl 3 t.val) := drain0_slot t h h'
@[sl_canon] theorem drain1_cell' (t : Fin grid0.N) (h : k0_cond4 (grid0.coords t) = 1#1) (h' : k0_cond6 (grid0.coords t) = 1#1) :
    (cc0_scratch3.slice (Rect.unit (s := S3) (k0_off17 (grid0.coords t)) ![1] (k0_off17_inb (grid0.coords t) h h'))).squeeze S_ squeezes_S1_S_
      = outCell (Ring.sl 3 (t.val + 2)) := drain1_cell t h h'
@[sl_canon] theorem drain1_slot' (t : Fin grid0.N) (h : k0_cond4 (grid0.coords t) = 1#1) (h' : k0_cond6 (grid0.coords t) = 1#1) :
    (outBuf.slice (Rect.unit (s := S3x4x1024x256) (k0_off19 (grid0.coords t)) ![1, 4, 1024, 256] (k0_off19_inb (grid0.coords t) h h')) (fun _ => rfl)).squeeze
      S4x1024x256 squeezes_S1x4x1024x256_S4x1024x256 = outSlot (Ring.sl 3 (t.val + 2)) := drain1_slot t h h'
@[sl_canon] theorem drain2_cell' (t : Fin grid0.N) (h : k0_cond4 (grid0.coords t) = 1#1) (h' : k0_cond7 (grid0.coords t) = 1#1) :
    (cc0_scratch3.slice (Rect.unit (s := S3) (k0_off20 (grid0.coords t)) ![1] (k0_off20_inb (grid0.coords t) h h'))).squeeze S_ squeezes_S1_S_
      = outCell (Ring.sl 3 (t.val + 1)) := drain2_cell t h h'
@[sl_canon] theorem drain2_slot' (t : Fin grid0.N) (h : k0_cond4 (grid0.coords t) = 1#1) (h' : k0_cond7 (grid0.coords t) = 1#1) :
    (outBuf.slice (Rect.unit (s := S3x4x1024x256) (k0_off22 (grid0.coords t)) ![1, 4, 1024, 256] (k0_off22_inb (grid0.coords t) h h')) (fun _ => rfl)).squeeze
      S4x1024x256 squeezes_S1x4x1024x256_S4x1024x256 = outSlot (Ring.sl 3 (t.val + 1)) := drain2_slot t h h'

/-- The boxes the body loads from and stores to, in the slots' spelling. -/
instance (priority := high) load_box (t : Fin grid0.N) : ClosedOff (k0_off10 (grid0.coords t)) := ⟨![(Ring.sl 3 t.val).val, 0, 0, 0], off10_at t⟩
instance (priority := high) store_box (t : Fin grid0.N) : ClosedOff (k0_off11 (grid0.coords t)) := ⟨![(Ring.sl 3 t.val).val, 0, 0, 0], off11_at t⟩

end Cert.KernelIdeal.Stream

end
-- ==== Proof.Exact.Rings.lean ====
/- The two rings of slots, as propositions: what each slot and each row block holds before every grid point, and how the
   two rings are opened at a point and closed after it. -/
module

public import proofs.«01_k».proof.Proof.Exact.Names
public import Idealize.ShloMosaic.Lib.Pipeline.Value

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of the buffer a memref looks into, on core `c`. -/
abbrev BufOf (c : Dev nD) {sp : Space} {S : Shape} {e : EltTy} (M : Memref sig .tc sp S e) : Type := Buf (Elt F) (M.view.loc (c : Thread nD τ))
/-- The elements a memref looks at, owned in full. -/
abbrev held (c : Dev nD) {sp : Space} {S : Shape} {e : EltTy} (M : Memref sig .tc sp S e) (f : BufOf (F := F) c M) : sProp 𝕄 :=
  M.view.loc (c : Thread nD τ) ↦[M.view.set]{fullShare} f
/-- The whole buffer behind a memref, owned in full. -/
abbrev heldWhole (c : Dev nD) {sp : Space} {S : Shape} {e : EltTy} (M : Memref sig .tc sp S e) (f : BufOf (F := F) c M) : sProp 𝕄 :=
  M.view.loc (c : Thread nD τ) ↦{fullShare} f

section Families
variable (c : Dev nD) (W : BufOf (F := F) c childM) (out : Fin 8 → S4x1024x256.Idx → Elt F .f32)

/-! ## What flows in -/

abbrev inSlotP (s : Fin 3) (f : BufOf (F := F) c (inSlot s)) : sProp 𝕄 := held c (inSlot s) f
abbrev inCellP (s : Fin 3) : sProp 𝕄 := semVal ((c : Thread nD τ), inSem s) 0
abbrev childP (b : Fin 8) : sProp 𝕄 := held c (inBlock b) W
/-- Input slot `s` once block `b` has arrived over what it held before. -/
abbrev arrived (s : Fin 3) (b : Fin 8) (f : BufOf (F := F) c (inSlot s)) : BufOf (F := F) c (inSlot s) :=
  (inSlot s).view.writes (Elt F) f [⟨Rect.whole S4x2048x256, ReadAs.same.apply ((inBlock b).view.read (Elt F) W)⟩]
/-- Block `b` on its way into input slot `s`. -/
abbrev inFlight (s : Fin 3) (b : Fin 8) (f : BufOf (F := F) c (inSlot s)) : sProp 𝕄 :=
  Transfers.Flight countersEmb (c : Thread nD τ) (inSem s) default ((inSlot s).view.amount (inSem s))
    iprop(inSlotP c s (arrived c W s b f) ∗ childP c W b)
/-- The input ring before point `k`. -/
def inRing (k : ℕ) : sProp 𝕄 :=
  if k = 0 then Ring.At₀ (inCellP c) (inSlotP c) (childP c W)
  else Ring.At 2 (inCellP c) (inSlotP c) (childP c W) (inFlight c W) k

/-! ## What flows out -/

abbrev outSlotP (g : Fin 3) (e : BufOf (F := F) c (outSlot g)) : sProp 𝕄 := held c (outSlot g) e
abbrev outCellP (g : Fin 3) : sProp 𝕄 := semVal ((c : Thread nD τ), outSem g) 0
abbrev resP (u : Fin 8) (f : BufOf (F := F) c (outBlock u)) : sProp 𝕄 := held c (outBlock u) f
/-- Block `u` of the result, written: it reads as `out u`. -/
abbrev resDone (u : Fin 8) : sProp 𝕄 := iprop(∃ f, ⌜(outBlock u).view.read (Elt F) f = out u⌝ ∗ resP c u f)
/-- Block `u` of the result, not written yet. -/
abbrev resRaw (u : Fin 8) : sProp 𝕄 := iprop(∃ f, resP (F := F) c u f)
/-- Output slot `g` on its way to block `u`, which will read as `out u`. -/
abbrev outFlight (g : Fin 3) (u : Fin 8) : sProp 𝕄 :=
  iprop(∃ f e, ⌜(outBlock u).view.read (Elt F) f = out u⌝ ∗
    Transfers.Flight countersEmb (c : Thread nD τ) (outSem g) default ((outBlock u).view.amount (outSem g)) iprop(resP c u f ∗ outSlotP c g e))
/-- Output slot `g` at rest. -/
abbrev outFree (g : Fin 3) : sProp 𝕄 := iprop(outCellP (F := F) c g ∗ ∃ e, outSlotP (F := F) c g e)
/-- The output ring before point `k`. -/
def outRing (k : ℕ) : sProp 𝕄 := Ring.AtBΦ 3 (outFree c) (outFlight c out) (resRaw c) (resDone c out) k
end Families

/-! ## What the slots read -/

/-- Four batch rows may be read with an axis of extent one in front. -/
theorem casts_in : S4x2048x256.ShapeCasts S1x4x2048x256 := by decide

/-- The block of the result computed from block `u` of the child array and the two staged operands. -/
def tile (c : Dev nD) (W : BufOf (F := F) c childM) (x0 : Vec F S512x256 .f32) (x1 : Vec F S1x256 .f32) (u : Fin 8) :
    S4x1024x256.Idx → Elt F .f32 :=
  k0_pay2 (shapeCast S1x4x2048x256 ((inBlock u).view.read (Elt F) W) casts_in) x0 x1

/-- Loading a box that starts at slot `s` reads the slot. -/
theorem load_slot {c : Dev nD} {o : Fin 4 → Nat} {s : Fin 3} (e : o = ![s.val, 0, 0, 0]) (h) (f : BufOf (F := F) c (inSlot s)) :
    View.readAt (Elt F) inBuf.view (Rect.unit (s := S3x4x2048x256) o S1x4x2048x256.size h).toLoadRect f
      = shapeCast S1x4x2048x256 ((inSlot s).view.read (Elt F) f) casts_in := by
  subst e

  exact (shapeCast_shapeCast (α := Elt F .f32) (t := S4x2048x256)
    ((inBuf.view.slice (Rect.unit (s := S3x4x2048x256) ![s.val, 0, 0, 0] S1x4x2048x256.size h)).read (Elt F) f)
    shapeCasts_S1x4x2048x256_S4x2048x256 casts_in).symm

/-- An output slot reads as the box of the buffer it names, without the leading axis. -/
theorem read_outSlot {c : Dev nD} (g : Fin 3) (h) (f : BufOf (F := F) c (outSlot g)) :
    (outSlot g).view.read (Elt F) f
      = shapeCast S4x1024x256 ((outBuf.access (Rect.unit (s := S3x4x1024x256) ![g.val, 0, 0, 0] S1x4x1024x256.size h)).read (Elt F) f)
          shapeCasts_S1x4x1024x256_S4x1024x256 := rfl

/-- After a store of a whole box that starts at slot `g`, the slot reads what was stored. -/
theorem read_stored {c : Dev nD} {o : Fin 4 → Nat} {g : Fin 3} (e : o = ![g.val, 0, 0, 0]) (h) (f : BufOf (F := F) c (outSlot g))
    (r : S4x1024x256.Idx → Elt F .f32) :
    (outSlot g).view.read (Elt F)
        ((outBuf.access (Rect.unit (s := S3x4x1024x256) o S1x4x1024x256.size h)).write (Elt F) f (k0_pay1 r) Finset.univ) = r := by
  subst e
  refine (read_outSlot (c := c) g h _).trans ?_
  refine Eq.trans (congrArg (fun y => shapeCast (α := Elt F .f32) S4x1024x256 y shapeCasts_S1x4x1024x256_S4x1024x256)
    (View.read_write_univ (v := outBuf.access (Rect.unit (s := S3x4x1024x256) ![g.val, 0, 0, 0] S1x4x1024x256.size h)) (Val := Elt F) f (k0_pay1 r))) ?_
  exact shapeCast_shapeCast (α := Elt F .f32) (t := S1x4x1024x256) r shapeCasts_S4x1024x256_S1x4x1024x256 shapeCasts_S1x4x1024x256_S4x1024x256

/-! ## Three slots written back three points later -/

section Three
variable {M : Type _} [URA M]
variable (free : Fin 3 → sProp M) (infl : Fin 3 → Fin 8 → sProp M) (ahead behind : Fin 8 → sProp M)

/-- Nothing beside `P` is `P`. -/
private theorem emp_sep_eq (P : sProp M) : iprop(BI.emp ∗ P) = P := BI.equiv_iff.mp BI.emp_sep

/-- Before a point `t` of the first three: block `t` apart, slot `t` free, the other two as they are, nothing back yet. -/
theorem writeback_early (t : ℕ) (h : t < 3) :
    Ring.AtB 3 free infl ahead behind t
      = iprop((ahead (Ring.bk 8 t) ∗ bigSep (Ring.aheadSet (t + 1)) ahead)
          ∗ free (Ring.sl 3 t) ∗ Ring.roleB 3 free infl t 1 ∗ Ring.roleB 3 free infl t 2) := by
  unfold Ring.AtB
  rw [Ring.aheadSet_open t (by omega), bigSep_insert (Ring.bk_not_mem_aheadSet_succ t (by omega)),
    Ring.behindSet_boot 3 t (by omega), bigSep_empty, emp_sep_eq, Ring.bigSep_fin3,
    Ring.roleB_of_free _ _ _ t 0 (by simp only [Fin.val_zero]; omega), Fin.val_zero, Nat.add_zero]
  rfl

/-- After such a point: slot `t` carries block `t`. -/
theorem writeback_early_next (t : ℕ) (h : t < 3) :
    Ring.AtB 3 free infl ahead behind (t + 1)
      = iprop(bigSep (Ring.aheadSet (t + 1)) ahead
          ∗ Ring.roleB 3 free infl t 1 ∗ Ring.roleB 3 free infl t 2 ∗ infl (Ring.sl 3 t) (Ring.bk 8 t)) := by
  unfold Ring.AtB
  rw [Ring.behindSet_boot 3 (t + 1) (by omega), bigSep_empty, emp_sep_eq, Ring.bigSep_fin3,
    Ring.roleB_of_infl _ _ _ (t + 1) 2 (by simp only [Fin.val_two]; omega)]
  have e0 : Ring.roleB 3 free infl (t + 1) 0 = Ring.roleB 3 free infl t 1 := by
    unfold Ring.roleB
    simp only [Fin.val_zero, Fin.val_one, Nat.add_zero]
    split_ifs <;> first | rfl | omega
  have e1 : Ring.roleB 3 free infl (t + 1) 1 = Ring.roleB 3 free infl t 2 := by
    unfold Ring.roleB
    simp only [Fin.val_one, Fin.val_two, show t + 1 + 1 = t + 2 from rfl]
    split_ifs <;> first | rfl | omega
  rw [e0, e1, Fin.val_two, show t + 1 + 2 = t + 3 from rfl, Ring.sl_add, Nat.add_sub_cancel]

/-- Before a later point `t`: block `t` apart, slot `t` carrying block `t - 3`. -/
theorem writeback_late (t : ℕ) (h3 : 3 ≤ t) (h : t < 8) :
    Ring.AtB 3 free infl ahead behind t
      = iprop((ahead (Ring.bk 8 t) ∗ bigSep (Ring.aheadSet (t + 1)) ahead) ∗ bigSep (Ring.behindSet 3 t) behind
          ∗ infl (Ring.sl 3 t) (Ring.bk 8 (t - 3)) ∗ infl (Ring.sl 3 (t + 1)) (Ring.bk 8 (t - 2))
          ∗ infl (Ring.sl 3 (t + 2)) (Ring.bk 8 (t - 1))) := by
  unfold Ring.AtB
  rw [Ring.aheadSet_open t h, bigSep_insert (Ring.bk_not_mem_aheadSet_succ t h), Ring.bigSep_fin3,
    Ring.roleB_of_infl _ _ _ t 0 (by simp only [Fin.val_zero]; omega),
    Ring.roleB_of_infl _ _ _ t 1 (by simp only [Fin.val_one]; omega),
    Ring.roleB_of_infl _ _ _ t 2 (by simp only [Fin.val_two]; omega),
    Fin.val_zero, Fin.val_one, Fin.val_two, Nat.add_zero, show t + 1 - 3 = t - 2 by omega, show t + 2 - 3 = t - 1 by omega]
  rfl

/-- After such a point: block `t - 3` is back and slot `t` carries block `t`. -/
theorem writeback_late_next (t : ℕ) (h3 : 3 ≤ t) (h : t < 8) :
    Ring.AtB 3 free infl ahead behind (t + 1)
      = iprop(bigSep (Ring.aheadSet (t + 1)) ahead ∗ (behind (Ring.bk 8 (t - 3)) ∗ bigSep (Ring.behindSet 3 t) behind)
          ∗ infl (Ring.sl 3 (t + 1)) (Ring.bk 8 (t - 2))
          ∗ infl (Ring.sl 3 (t + 2)) (Ring.bk 8 (t - 1)) ∗ infl (Ring.sl 3 t) (Ring.bk 8 t)) := by
  unfold Ring.AtB
  rw [Ring.behindSet_close 3 t h3 h, bigSep_insert (Ring.bk_not_mem_behindSet 3 t h3 h), Ring.bigSep_fin3,
    Ring.roleB_of_infl _ _ _ (t + 1) 0 (by simp only [Fin.val_zero]; omega),
    Ring.roleB_of_infl _ _ _ (t + 1) 1 (by simp only [Fin.val_one]; omega),
    Ring.roleB_of_infl _ _ _ (t + 1) 2 (by simp only [Fin.val_two]; omega),
    Fin.val_zero, Fin.val_one, Fin.val_two, Nat.add_zero, show t + 1 - 3 = t - 2 by omega, show t + 1 + 1 - 3 = t - 1 by omega,
    show t + 1 + 2 = t + 3 from rfl, Ring.sl_add, Nat.add_sub_cancel]
  rfl

/-- After the last point everything is back: the blocks waited for one by one join those back before. -/
theorem writeback_end (t : ℕ) (h : t = 7) :
    Ring.AtBEnd free behind
      = iprop((behind (Ring.bk 8 t) ∗ behind (Ring.bk 8 (t - 1)) ∗ behind (Ring.bk 8 (t - 2)) ∗ behind (Ring.bk 8 (t - 3))
          ∗ bigSep (Ring.behindSet 3 t) behind)
          ∗ free (Ring.sl 3 (t + 2)) ∗ free (Ring.sl 3 t) ∗ free (Ring.sl 3 (t + 1))) := by
  subst h
  unfold Ring.AtBEnd
  have e : (Finset.univ : Finset (Fin 8))
      = insert (Ring.bk 8 7) (insert (Ring.bk 8 6) (insert (Ring.bk 8 5) (insert (Ring.bk 8 4) (Ring.behindSet 3 7)))) := by decide
  rw [e, bigSep_insert (by decide), bigSep_insert (by decide), bigSep_insert (by decide), bigSep_insert (by decide), Ring.bigSep_fin3]
  rfl

/-- Before the last point nothing is ahead but its own block. -/
theorem nothing_ahead (t : ℕ) (h : t = 7) (P : sProp M) : iprop(bigSep (Ring.aheadSet (NB := 8) (t + 1)) ahead ∗ P) = P := by
  subst h; rw [Ring.aheadSet_end 8 le_rfl, bigSep_empty]; exact emp_sep_eq P
end Three

end Cert.KernelIdeal.Stream

end
-- ==== Proof.Exact.Body.lean ====
/- What one grid point does, run through for each of the five kinds of point: the first, the two after it (nothing to wait
   for on the way out), the three in the middle, the one that starts no more copies in, and the last, which waits for
   everything still on its way out. -/
module

public import proofs.«01_k».proof.Proof.Exact.Rings
public import Idealize.ShloMosaic.Lib.VecWindow

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The kernel's body at point `t`, on the two staged operands, with the continuation `K`. -/
abbrev BodyWp (c : Dev nD) (t : Fin grid0.N) (arg2 : Memref sig .tc .vmem S512x256 .f32) (harg2 : arg2.IsWhole)
    (arg3 : Memref sig .tc .vmem S1x256 .f32) (harg3 : arg3.IsWhole) (K : PUnit → sProp 𝕄) : sProp 𝕄 :=
  wp frame (wpE (defs₀ (F := F)) Variants.none c none) Set.univ (cc0__body (grid0.coords t) childM (Memref.isWhole_whole _) arg2 harg2 arg3 harg3 resM (Memref.isWhole_whole _) inBuf (Memref.isWhole_whole _) outBuf (Memref.isWhole_whole _) cc0_scratch2 cc0_scratch3) K

/-- The value a point computes: from an input slot in which block `t` has arrived, and the two operands, the result's
    block `t`. -/
theorem computed {c : Dev nD} (t : Fin grid0.N) {arg2 : Memref sig .tc .vmem S512x256 .f32} {arg3 : Memref sig .tc .vmem S1x256 .f32}
    {x0 : Vec F S512x256 .f32} {x1 : Vec F S1x256 .f32} {f2 : arg2.view.ty.Contents (Elt F)} {f3 : arg3.view.ty.Contents (Elt F)}
    (e2 : arg2.view.read (Elt F) f2 = x0) (e3 : arg3.view.read (Elt F) f3 = x1) (W : BufOf (F := F) c childM)
    (h1 h2 h3) (f : BufOf (F := F) c (inSlot (Ring.sl 3 t.val))) :
    k0_pay2
        (View.readAt (Elt F) inBuf.view (Rect.unit (s := S3x4x2048x256) (k0_off10 (grid0.coords t)) S1x4x2048x256.size h1).toLoadRect
          (arrived c W (Ring.sl 3 t.val) (Ring.bk 8 t.val) f))
        (View.readAt (Elt F) arg2.view (Rect.unit (s := S512x256) ![0, 0] S512x256.size h2).toLoadRect f2)
        (View.readAt (Elt F) arg3.view (Rect.unit (s := S1x256) ![0, 0] S1x256.size h3).toLoadRect f3)
      = tile c W x0 x1 (Ring.bk 8 t.val) := by
  rw [View.readAt_full, View.readAt_full, e2, e3]
  unfold tile
  refine congrArg (fun y => k0_pay2 y x0 x1) ((load_slot (c := c) (off10_at t) h1 _).trans ?_)
  exact congrArg (fun y => shapeCast S1x4x2048x256 y casts_in) (View.read_writes_whole _ _ _)

/-- What a point sends: the output slot, stored with the computed value, is copied over block `t` of the result. -/
theorem sent {c : Dev nD} (t : Fin grid0.N) {r w : S4x1024x256.Idx → Elt F .f32} (e : r = w) (h)
    (fo : BufOf (F := F) c (outSlot (Ring.sl 3 t.val))) (fr : BufOf (F := F) c (outBlock (Ring.bk 8 t.val))) :
    (outBlock (Ring.bk 8 t.val)).view.read (Elt F) ((outBlock (Ring.bk 8 t.val)).view.writes (Elt F) fr
      [⟨Rect.whole S4x1024x256, ReadAs.same.apply ((outSlot (Ring.sl 3 t.val)).view.read (Elt F)
        ((outBuf.access (Rect.unit (s := S3x4x1024x256) (k0_off11 (grid0.coords t)) S1x4x1024x256.size h)).write (Elt F) fo (k0_pay1 r) Finset.univ))⟩])
      = w :=
  (View.read_writes_whole _ _ _).trans ((read_stored (c := c) (off11_at t) h fo r).trans e)

set_option maxHeartbeats 1000000 in
/-- The first point: it starts blocks `t` and `t + 1` into their slots, then block `t + 2`, waits for block `t`, and
    sends the result's block `t`. -/
theorem run_first (c : Dev nD) (t : Fin grid0.N) (arg2 : Memref sig .tc .vmem S512x256 .f32) (harg2 : arg2.IsWhole) (arg3 : Memref sig .tc .vmem S1x256 .f32) (harg3 : arg3.IsWhole)
    (h0 : isFirst (grid0.coords t)) (h1 : k0_cond2 (grid0.coords t) = 1#1) (h2 : ¬ k0_cond3 (grid0.coords t) = 1#1) (h3 : ¬ k0_cond4 (grid0.coords t) = 1#1)
    (hz : t.val = 0)
    (x0 : Vec F S512x256 .f32) (x1 : Vec F S1x256 .f32) (W : BufOf (F := F) c childM) (V : Waits sig Unit) (K : PUnit → sProp 𝕄) :
    iprop(owns (c : Thread nD τ) arg2 fullShare x0 ∗ owns (c : Thread nD τ) arg3 fullShare x1
        ∗ childP c W (Ring.bk 8 t.val)
        ∗ childP c W (Ring.bk 8 (t.val + 1))
        ∗ childP c W (Ring.bk 8 (t.val + 2))
        ∗ Ring.free (inCellP c) (inSlotP c) (Ring.sl 3 t.val)
        ∗ Ring.free (inCellP c) (inSlotP c) (Ring.sl 3 (t.val + 1))
        ∗ Ring.free (inCellP c) (inSlotP c) (Ring.sl 3 (t.val + 2))
        ∗ resRaw c (Ring.bk 8 t.val)
        ∗ outFree c (Ring.sl 3 t.val) ∗ owes (c : Thread nD τ) 0 V
        ∗ (iprop(owns (c : Thread nD τ) arg2 fullShare x0 ∗ owns (c : Thread nD τ) arg3 fullShare x1
            ∗ childP c W (Ring.bk 8 t.val)
            ∗ Ring.inflight (inFlight c W) (Ring.sl 3 (t.val + 1)) (Ring.bk 8 (t.val + 1))
            ∗ Ring.inflight (inFlight c W) (Ring.sl 3 (t.val + 2)) (Ring.bk 8 (t.val + 2))
            ∗ Ring.free (inCellP c) (inSlotP c) (Ring.sl 3 t.val)
            ∗ outFlight c (tile c W x0 x1) (Ring.sl 3 t.val) (Ring.bk 8 t.val) ∗ (∃ V', owes (c : Thread nD τ) 0 V')) -∗ K ⟨⟩))
      ⊢ BodyWp c t arg2 harg2 arg3 harg3 K := by
  haveI : Fact (isFirst (grid0.coords t)) := ⟨h0⟩
  haveI : Fact (k0_cond2 (grid0.coords t) = 1#1) := ⟨h1⟩
  haveI : Fact (¬ k0_cond3 (grid0.coords t) = 1#1) := ⟨h2⟩
  haveI : Fact (¬ k0_cond4 (grid0.coords t) = 1#1) := ⟨h3⟩
  have hcanon_s0 := inSlot_of (first_slot0 t hz) inb_S3x4x2048x256_S1x4x2048x256_0_0_0_0 fun _ => rfl
  have hcanon_s1 := inSlot_of (first_slot1 t hz) inb_S3x4x2048x256_S1x4x2048x256_1_0_0_0 fun _ => rfl
  have hcanon_c0 := inCell_of (first_cell0 t hz) inb_S3_S1_0
  have hcanon_c1 := inCell_of (first_cell1 t hz) inb_S3_S1_1
  have hcanon_b0 := inBlock_of (first_block0 t hz) inb_S32x2048x256_S4x2048x256_0_0_0 fun _ => rfl
  have hcanon_b1 := inBlock_of (first_block1 t hz) inb_S32x2048x256_S4x2048x256_4_0_0 fun _ => rfl
  unfold BodyWp
  simp only [cc0__body_eq_skeleton]; unfold cc0__body_skel
  simp only [k0_part1_eq_skeleton]
  unfold owns Ring.inflight Ring.free
  iintro ⟨⟨%g2, %hg2, H0⟩, ⟨%g3, %hg3, H1⟩, Hh0, Hh1, Hh2, ⟨Hi0, ⟨%f0, Hs0⟩⟩, ⟨Hi1, ⟨%f1, Hs1⟩⟩, ⟨Hi2, ⟨%f2, Hs2⟩⟩, ⟨%fr, Hres⟩, ⟨Hoc, ⟨%fo, Hos⟩⟩, HV, Hk⟩
  obtain rfl := harg2.eq_unread hg2; obtain rfl := harg3.eq_unread hg3
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [Hh0]; · iexact Hh0
  isplitl [Hi1]; · iexists _; iexact Hi1
  isplitl [Hi2]; · iexists _; iexact Hi2
  isplitl [Hi0 Hs0]
  · isplitl [Hi0]; · iexact Hi0
    iexists _; iexact Hs0
  isplitl [Hoc]
  · iexists _, _; isplitr
    rotate_left
    · iexact Hoc
    ipureintro; exact sent t (computed t hg2 hg3 W _ _ _ _) _ _ _
  iexists _; iexact HV

set_option maxHeartbeats 1000000 in
/-- A point with a free output slot: block `t + 2` is started, block `t` waited for, the result's block `t` sent. -/
theorem run_early (c : Dev nD) (t : Fin grid0.N) (arg2 : Memref sig .tc .vmem S512x256 .f32) (harg2 : arg2.IsWhole) (arg3 : Memref sig .tc .vmem S1x256 .f32) (harg3 : arg3.IsWhole)
    (h0 : ¬ isFirst (grid0.coords t)) (h1 : k0_cond2 (grid0.coords t) = 1#1) (h2 : ¬ k0_cond3 (grid0.coords t) = 1#1) (h3 : ¬ k0_cond4 (grid0.coords t) = 1#1)
    (x0 : Vec F S512x256 .f32) (x1 : Vec F S1x256 .f32) (W : BufOf (F := F) c childM) (V : Waits sig Unit) (K : PUnit → sProp 𝕄) :
    iprop(owns (c : Thread nD τ) arg2 fullShare x0 ∗ owns (c : Thread nD τ) arg3 fullShare x1
        ∗ childP c W (Ring.bk 8 (t.val + 2))
        ∗ Ring.inflight (inFlight c W) (Ring.sl 3 t.val) (Ring.bk 8 t.val)
        ∗ Ring.free (inCellP c) (inSlotP c) (Ring.sl 3 (t.val + 2))
        ∗ resRaw c (Ring.bk 8 t.val)
        ∗ outFree c (Ring.sl 3 t.val) ∗ owes (c : Thread nD τ) 0 V
        ∗ (iprop(owns (c : Thread nD τ) arg2 fullShare x0 ∗ owns (c : Thread nD τ) arg3 fullShare x1
            ∗ childP c W (Ring.bk 8 t.val)
            ∗ Ring.inflight (inFlight c W) (Ring.sl 3 (t.val + 2)) (Ring.bk 8 (t.val + 2))
            ∗ Ring.free (inCellP c) (inSlotP c) (Ring.sl 3 t.val)
            ∗ outFlight c (tile c W x0 x1) (Ring.sl 3 t.val) (Ring.bk 8 t.val) ∗ (∃ V', owes (c : Thread nD τ) 0 V')) -∗ K ⟨⟩))
      ⊢ BodyWp c t arg2 harg2 arg3 harg3 K := by
  haveI : Fact (¬ isFirst (grid0.coords t)) := ⟨h0⟩
  haveI : Fact (k0_cond2 (grid0.coords t) = 1#1) := ⟨h1⟩
  haveI : Fact (¬ k0_cond3 (grid0.coords t) = 1#1) := ⟨h2⟩
  haveI : Fact (¬ k0_cond4 (grid0.coords t) = 1#1) := ⟨h3⟩
  unfold BodyWp
  simp only [cc0__body_eq_skeleton]; unfold cc0__body_skel
  simp only [k0_part1_eq_skeleton]
  unfold owns Ring.inflight Ring.free
  iintro ⟨⟨%g2, %hg2, H0⟩, ⟨%g3, %hg3, H1⟩, Hh2, ⟨%fi, Hi0⟩, ⟨Hi2, ⟨%f2, Hs2⟩⟩, ⟨%fr, Hres⟩, ⟨Hoc, ⟨%fo, Hos⟩⟩, HV, Hk⟩
  obtain rfl := harg2.eq_unread hg2; obtain rfl := harg3.eq_unread hg3
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [Hi0_src]; · iexact Hi0_src
  isplitl [Hi2]; · iexists _; iexact Hi2
  isplitl [Hi0 Hi0_dst]
  · isplitl [Hi0]; · iexact Hi0
    iexists _; iexact Hi0_dst
  isplitl [Hoc]
  · iexists _, _; isplitr
    rotate_left
    · iexact Hoc
    ipureintro; exact sent t (computed t hg2 hg3 W _ _ _ _) _ _ _
  iexists _; iexact HV

set_option maxHeartbeats 1000000 in
/-- A point in the middle: as before, but the output slot still carries block `t - 3`, which is waited for. -/
theorem run_middle (c : Dev nD) (t : Fin grid0.N) (arg2 : Memref sig .tc .vmem S512x256 .f32) (harg2 : arg2.IsWhole) (arg3 : Memref sig .tc .vmem S1x256 .f32) (harg3 : arg3.IsWhole)
    (h0 : ¬ isFirst (grid0.coords t)) (h1 : k0_cond2 (grid0.coords t) = 1#1) (h2 : k0_cond3 (grid0.coords t) = 1#1) (h3 : ¬ k0_cond4 (grid0.coords t) = 1#1)
    (x0 : Vec F S512x256 .f32) (x1 : Vec F S1x256 .f32) (W : BufOf (F := F) c childM) (V : Waits sig Unit) (K : PUnit → sProp 𝕄) :
    iprop(owns (c : Thread nD τ) arg2 fullShare x0 ∗ owns (c : Thread nD τ) arg3 fullShare x1
        ∗ childP c W (Ring.bk 8 (t.val + 2))
        ∗ Ring.inflight (inFlight c W) (Ring.sl 3 t.val) (Ring.bk 8 t.val)
        ∗ Ring.free (inCellP c) (inSlotP c) (Ring.sl 3 (t.val + 2))
        ∗ resRaw c (Ring.bk 8 t.val)
        ∗ outFlight c (tile c W x0 x1) (Ring.sl 3 t.val) (Ring.bk 8 (t.val - 3)) ∗ owes (c : Thread nD τ) 0 V
        ∗ (iprop(owns (c : Thread nD τ) arg2 fullShare x0 ∗ owns (c : Thread nD τ) arg3 fullShare x1
            ∗ childP c W (Ring.bk 8 t.val)
            ∗ Ring.inflight (inFlight c W) (Ring.sl 3 (t.val + 2)) (Ring.bk 8 (t.val + 2))
            ∗ Ring.free (inCellP c) (inSlotP c) (Ring.sl 3 t.val)
            ∗ resDone c (tile c W x0 x1) (Ring.bk 8 (t.val - 3))
            ∗ outFlight c (tile c W x0 x1) (Ring.sl 3 t.val) (Ring.bk 8 t.val) ∗ (∃ V', owes (c : Thread nD τ) 0 V')) -∗ K ⟨⟩))
      ⊢ BodyWp c t arg2 harg2 arg3 harg3 K := by
  haveI : Fact (¬ isFirst (grid0.coords t)) := ⟨h0⟩
  haveI : Fact (k0_cond2 (grid0.coords t) = 1#1) := ⟨h1⟩
  haveI : Fact (k0_cond3 (grid0.coords t) = 1#1) := ⟨h2⟩
  haveI : Fact (¬ k0_cond4 (grid0.coords t) = 1#1) := ⟨h3⟩
  unfold BodyWp
  simp only [cc0__body_eq_skeleton]; unfold cc0__body_skel
  simp only [k0_part1_eq_skeleton]
  unfold owns Ring.inflight Ring.free
  iintro ⟨⟨%g2, %hg2, H0⟩, ⟨%g3, %hg3, H1⟩, Hh2, ⟨%fi, Hi0⟩, ⟨Hi2, ⟨%f2, Hs2⟩⟩, ⟨%fr, Hres⟩, ⟨%fd, %ed, %hd, Hoc⟩, HV, Hk⟩
  obtain rfl := harg2.eq_unread hg2; obtain rfl := harg3.eq_unread hg3
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [Hi0_src]; · iexact Hi0_src
  isplitl [Hi2]; · iexists _; iexact Hi2
  isplitl [Hi0 Hi0_dst]
  · isplitl [Hi0]; · iexact Hi0
    iexists _; iexact Hi0_dst
  isplitl [Hoc_dst]
  · iexists fd; isplitr; · ipureintro; exact hd
    iexact Hoc_dst
  isplitl [Hoc]
  · iexists _, _; isplitr
    rotate_left
    · iexact Hoc
    ipureintro; exact sent t (computed t hg2 hg3 W _ _ _ _) _ _ _
  iexists _; iexact HV

set_option maxHeartbeats 1000000 in
/-- The last point but one: no copy in is left to start. -/
theorem run_late (c : Dev nD) (t : Fin grid0.N) (arg2 : Memref sig .tc .vmem S512x256 .f32) (harg2 : arg2.IsWhole) (arg3 : Memref sig .tc .vmem S1x256 .f32) (harg3 : arg3.IsWhole)
    (h0 : ¬ isFirst (grid0.coords t)) (h1 : ¬ k0_cond2 (grid0.coords t) = 1#1) (h2 : k0_cond3 (grid0.coords t) = 1#1) (h3 : ¬ k0_cond4 (grid0.coords t) = 1#1)
    (x0 : Vec F S512x256 .f32) (x1 : Vec F S1x256 .f32) (W : BufOf (F := F) c childM) (V : Waits sig Unit) (K : PUnit → sProp 𝕄) :
    iprop(owns (c : Thread nD τ) arg2 fullShare x0 ∗ owns (c : Thread nD τ) arg3 fullShare x1
        ∗ Ring.inflight (inFlight c W) (Ring.sl 3 t.val) (Ring.bk 8 t.val)
        ∗ resRaw c (Ring.bk 8 t.val)
        ∗ outFlight c (tile c W x0 x1) (Ring.sl 3 t.val) (Ring.bk 8 (t.val - 3)) ∗ owes (c : Thread nD τ) 0 V
        ∗ (iprop(owns (c : Thread nD τ) arg2 fullShare x0 ∗ owns (c : Thread nD τ) arg3 fullShare x1
            ∗ childP c W (Ring.bk 8 t.val)
            ∗ Ring.free (inCellP c) (inSlotP c) (Ring.sl 3 t.val)
            ∗ resDone c (tile c W x0 x1) (Ring.bk 8 (t.val - 3))
            ∗ outFlight c (tile c W x0 x1) (Ring.sl 3 t.val) (Ring.bk 8 t.val) ∗ (∃ V', owes (c : Thread nD τ) 0 V')) -∗ K ⟨⟩))
      ⊢ BodyWp c t arg2 harg2 arg3 harg3 K := by
  haveI : Fact (¬ isFirst (grid0.coords t)) := ⟨h0⟩
  haveI : Fact (¬ k0_cond2 (grid0.coords t) = 1#1) := ⟨h1⟩
  haveI : Fact (k0_cond3 (grid0.coords t) = 1#1) := ⟨h2⟩
  haveI : Fact (¬ k0_cond4 (grid0.coords t) = 1#1) := ⟨h3⟩
  unfold BodyWp
  simp only [cc0__body_eq_skeleton]; unfold cc0__body_skel
  simp only [k0_part1_eq_skeleton]
  unfold owns Ring.inflight Ring.free
  iintro ⟨⟨%g2, %hg2, H0⟩, ⟨%g3, %hg3, H1⟩, ⟨%fi, Hi0⟩, ⟨%fr, Hres⟩, ⟨%fd, %ed, %hd, Hoc⟩, HV, Hk⟩
  obtain rfl := harg2.eq_unread hg2; obtain rfl := harg3.eq_unread hg3
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [Hi0_src]; · iexact Hi0_src
  isplitl [Hi0 Hi0_dst]
  · isplitl [Hi0]; · iexact Hi0
    iexists _; iexact Hi0_dst
  isplitl [Hoc_dst]
  · iexists fd; isplitr; · ipureintro; exact hd
    iexact Hoc_dst
  isplitl [Hoc]
  · iexists _, _; isplitr
    rotate_left
    · iexact Hoc
    ipureintro; exact sent t (computed t hg2 hg3 W _ _ _ _) _ _ _
  iexists _; iexact HV

set_option maxHeartbeats 1000000 in
/-- The last point: the result's blocks still on their way are all waited for. -/
theorem run_last (c : Dev nD) (t : Fin grid0.N) (arg2 : Memref sig .tc .vmem S512x256 .f32) (harg2 : arg2.IsWhole) (arg3 : Memref sig .tc .vmem S1x256 .f32) (harg3 : arg3.IsWhole)
    (h0 : ¬ isFirst (grid0.coords t)) (h1 : ¬ k0_cond2 (grid0.coords t) = 1#1) (h2 : k0_cond3 (grid0.coords t) = 1#1) (h3 : k0_cond4 (grid0.coords t) = 1#1)
    (h5 : k0_cond5 (grid0.coords t) = 1#1) (h6 : k0_cond6 (grid0.coords t) = 1#1) (h7 : k0_cond7 (grid0.coords t) = 1#1)
    (x0 : Vec F S512x256 .f32) (x1 : Vec F S1x256 .f32) (W : BufOf (F := F) c childM) (V : Waits sig Unit) (K : PUnit → sProp 𝕄) :
    iprop(owns (c : Thread nD τ) arg2 fullShare x0 ∗ owns (c : Thread nD τ) arg3 fullShare x1
        ∗ Ring.inflight (inFlight c W) (Ring.sl 3 t.val) (Ring.bk 8 t.val)
        ∗ resRaw c (Ring.bk 8 t.val)
        ∗ outFlight c (tile c W x0 x1) (Ring.sl 3 t.val) (Ring.bk 8 (t.val - 3))
        ∗ outFlight c (tile c W x0 x1) (Ring.sl 3 (t.val + 1)) (Ring.bk 8 (t.val - 2))
        ∗ outFlight c (tile c W x0 x1) (Ring.sl 3 (t.val + 2)) (Ring.bk 8 (t.val - 1)) ∗ owes (c : Thread nD τ) 0 V
        ∗ (iprop(owns (c : Thread nD τ) arg2 fullShare x0 ∗ owns (c : Thread nD τ) arg3 fullShare x1
            ∗ childP c W (Ring.bk 8 t.val)
            ∗ Ring.free (inCellP c) (inSlotP c) (Ring.sl 3 t.val)
            ∗ resDone c (tile c W x0 x1) (Ring.bk 8 (t.val - 3))
            ∗ resDone c (tile c W x0 x1) (Ring.bk 8 t.val)
            ∗ resDone c (tile c W x0 x1) (Ring.bk 8 (t.val - 1))
            ∗ resDone c (tile c W x0 x1) (Ring.bk 8 (t.val - 2))
            ∗ outFree c (Ring.sl 3 (t.val + 2))
            ∗ outFree c (Ring.sl 3 t.val)
            ∗ outFree c (Ring.sl 3 (t.val + 1)) ∗ (∃ V', owes (c : Thread nD τ) 0 V')) -∗ K ⟨⟩))
      ⊢ BodyWp c t arg2 harg2 arg3 harg3 K := by
  haveI : Fact (¬ isFirst (grid0.coords t)) := ⟨h0⟩
  haveI : Fact (¬ k0_cond2 (grid0.coords t) = 1#1) := ⟨h1⟩
  haveI : Fact (k0_cond3 (grid0.coords t) = 1#1) := ⟨h2⟩
  haveI : Fact (k0_cond4 (grid0.coords t) = 1#1) := ⟨h3⟩
  haveI : Fact (k0_cond5 (grid0.coords t) = 1#1) := ⟨h5⟩
  haveI : Fact (k0_cond6 (grid0.coords t) = 1#1) := ⟨h6⟩
  haveI : Fact (k0_cond7 (grid0.coords t) = 1#1) := ⟨h7⟩
  unfold BodyWp
  simp only [cc0__body_eq_skeleton]; unfold cc0__body_skel
  simp only [k0_part1_eq_skeleton]
  unfold owns Ring.inflight Ring.free
  iintro ⟨⟨%g2, %hg2, H0⟩, ⟨%g3, %hg3, H1⟩, ⟨%fi, Hi0⟩, ⟨%fr, Hres⟩, ⟨%fd, %ed, %hd, Hoc⟩, ⟨%fd1, %ed1, %hd1, Hoc1⟩, ⟨%fd2, %ed2, %hd2, Hoc2⟩, HV, Hk⟩
  obtain rfl := harg2.eq_unread hg2; obtain rfl := harg3.eq_unread hg3
  sl_exec (disch := first | sl_exact h0 | sl_exact h1 | sl_exact h2 | sl_exact h3 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [Hi0_src]; · iexact Hi0_src
  isplitl [Hi0 Hi0_dst]
  · isplitl [Hi0]; · iexact Hi0
    iexists _; iexact Hi0_dst
  isplitl [Hoc_dst]
  · iexists fd; isplitr; · ipureintro; exact hd
    iexact Hoc_dst
  isplitl [Hres]
  · iexists _; isplitr
    rotate_left
    · iexact Hres
    ipureintro; exact sent t (computed t hg2 hg3 W _ _ _ _) _ _ _
  isplitl [Hoc2_dst]
  · iexists fd2; isplitr; · ipureintro; exact hd2
    iexact Hoc2_dst
  isplitl [Hoc1_dst]
  · iexists fd1; isplitr; · ipureintro; exact hd1
    iexact Hoc1_dst
  isplitl [Hoc2 Hoc2_src]
  · isplitl [Hoc2]; · iexact Hoc2
    iexists _; iexact Hoc2_src
  isplitl [Hoc Hoc_src]
  · isplitl [Hoc]; · iexact Hoc
    iexists _; iexact Hoc_src
  isplitl [Hoc1 Hoc1_src]
  · isplitl [Hoc1]; · iexact Hoc1
    iexists _; iexact Hoc1_src
  iexists _; iexact HV

end Cert.KernelIdeal.Stream

end
-- ==== Proof.Exact.Steps.lean ====
/- The two rings, point by point: what a point takes out of each ring, and how what it gives back makes the ring before the
   next point. -/
module

public import proofs.«01_k».proof.Proof.Exact.Rings

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (W : BufOf (F := F) c childM) (out : Fin 8 → S4x1024x256.Idx → Elt F .f32)

/-! ## The ring of inputs -/

/-- The first point takes three blocks and all three slots, and leaves the second and third block on their way. -/
theorem in_first (t : ℕ) (h : t = 0) :
    inRing c W t ⊢ iprop((childP c W (Ring.bk 8 t) ∗ childP c W (Ring.bk 8 (t + 1)) ∗ childP c W (Ring.bk 8 (t + 2))
        ∗ Ring.free (inCellP (F := F) c) (inSlotP c) (Ring.sl 3 t) ∗ Ring.free (inCellP (F := F) c) (inSlotP c) (Ring.sl 3 (t + 1))
        ∗ Ring.free (inCellP (F := F) c) (inSlotP c) (Ring.sl 3 (t + 2)))
      ∗ ((childP c W (Ring.bk 8 t) ∗ Ring.inflight (inFlight c W) (Ring.sl 3 (t + 1)) (Ring.bk 8 (t + 1))
          ∗ Ring.inflight (inFlight c W) (Ring.sl 3 (t + 2)) (Ring.bk 8 (t + 2)) ∗ Ring.free (inCellP (F := F) c) (inSlotP c) (Ring.sl 3 t))
        -∗ inRing c W (t + 1))) := by
  unfold inRing
  rw [if_pos h, if_neg (by omega), Ring.At₀_eq3' _ _ _ t h (by decide), Ring.At3_one' _ _ _ _ t h (by decide)]
  iintro ⟨⟨A0, A1, A2, AR⟩, F0, F1, F2⟩
  isplitr [AR]
  · isplitl [A0]; · iexact A0
    isplitl [A1]; · iexact A1
    isplitl [A2]; · iexact A2
    isplitl [F0]; · iexact F0
    isplitl [F1]; · iexact F1
    iexact F2
  iintro ⟨A0, I1, I2, F0⟩
  isplitl [A0 AR]
  · isplitl [A0]; · iexact A0
    iexact AR
  isplitl [I1]; · iexact I1
  isplitl [I2]; · iexact I2
  iexact F0

/-- A point with a block left to start takes that block, the block that is arriving and the free slot. -/
theorem in_mid (t : ℕ) (h : 1 ≤ t) (h' : t + 2 < 8) :
    inRing c W t ⊢ iprop((childP c W (Ring.bk 8 (t + 2)) ∗ Ring.inflight (inFlight c W) (Ring.sl 3 t) (Ring.bk 8 t)
        ∗ Ring.free (inCellP (F := F) c) (inSlotP c) (Ring.sl 3 (t + 2)))
      ∗ ((childP c W (Ring.bk 8 t) ∗ Ring.inflight (inFlight c W) (Ring.sl 3 (t + 2)) (Ring.bk 8 (t + 2))
          ∗ Ring.free (inCellP (F := F) c) (inSlotP c) (Ring.sl 3 t))
        -∗ inRing c W (t + 1))) := by
  unfold inRing
  rw [if_neg (by omega), if_neg (by omega), Ring.At3_here _ _ _ _ t h', Ring.At3_next _ _ _ _ t h',
    Ring.slotAt3_next0 _ _ _ t (by omega), Ring.slotAt3_next1 _ _ _ t h']
  iintro ⟨⟨A2, AR⟩, I0, I1, F2⟩
  isplitl [A2 I0 F2]
  · isplitl [A2]; · iexact A2
    isplitl [I0]; · iexact I0
    iexact F2
  iintro ⟨A0, I2, F0⟩
  isplitl [A0 AR]
  · isplitl [A0]; · iexact A0
    iexact AR
  isplitl [I1]; · iexact I1
  isplitl [I2]; · iexact I2
  iexact F0

/-- One of the last two points takes only the block that is arriving. -/
theorem in_tail (t : ℕ) (h : 8 ≤ t + 2) (h' : t < 8) :
    inRing c W t ⊢ iprop(Ring.inflight (inFlight c W) (Ring.sl 3 t) (Ring.bk 8 t)
      ∗ ((childP c W (Ring.bk 8 t) ∗ Ring.free (inCellP (F := F) c) (inSlotP c) (Ring.sl 3 t)) -∗ inRing c W (t + 1))) := by
  unfold inRing
  rw [if_neg (by omega), if_neg (by omega), Ring.At3_here_tail _ _ _ _ t h', Ring.At3_next_tail _ _ _ _ t h h', Ring.slotAt3_tail_role]
  iintro ⟨AR, I0, R1, F2⟩
  isplitl [I0]; · iexact I0
  iintro ⟨A0, F0⟩
  isplitl [A0 AR]
  · isplitl [A0]; · iexact A0
    iexact AR
  isplitl [R1]; · iexact R1
  isplitl [F2]; · iexact F2
  iexact F0

/-! ## The ring of outputs -/

/-- One of the first three points takes its block of the result and a free slot, and leaves the block on its way. -/
theorem out_early (t : ℕ) (h : t < 3) :
    outRing c out t ⊢ iprop((resRaw (F := F) c (Ring.bk 8 t) ∗ outFree c (Ring.sl 3 t))
      ∗ (outFlight c out (Ring.sl 3 t) (Ring.bk 8 t) -∗ outRing c out (t + 1))) := by
  unfold outRing
  rw [Ring.AtBΦ_lt _ _ _ _ _ t (by omega), Ring.AtBΦ_lt _ _ _ _ _ (t + 1) (by omega), writeback_early _ _ _ _ t h,
    writeback_early_next _ _ _ _ t h]
  iintro ⟨⟨A, AR⟩, F0, R1, R2⟩
  isplitl [A F0]
  · isplitl [A]; · iexact A
    iexact F0
  iintro I0
  isplitl [AR]; · iexact AR
  isplitl [R1]; · iexact R1
  isplitl [R2]; · iexact R2
  iexact I0

/-- A later point takes its block and the slot that is on its way to the block of three points before, which comes back
    written. -/
theorem out_late (t : ℕ) (h : 3 ≤ t) (h' : t < 7) :
    outRing c out t ⊢ iprop((resRaw (F := F) c (Ring.bk 8 t) ∗ outFlight c out (Ring.sl 3 t) (Ring.bk 8 (t - 3)))
      ∗ ((resDone c out (Ring.bk 8 (t - 3)) ∗ outFlight c out (Ring.sl 3 t) (Ring.bk 8 t)) -∗ outRing c out (t + 1))) := by
  unfold outRing
  rw [Ring.AtBΦ_lt _ _ _ _ _ t (by omega), Ring.AtBΦ_lt _ _ _ _ _ (t + 1) (by omega), writeback_late _ _ _ _ t h (by omega),
    writeback_late_next _ _ _ _ t h (by omega)]
  iintro ⟨⟨A, AR⟩, B, I0, I1, I2⟩
  isplitl [A I0]
  · isplitl [A]; · iexact A
    iexact I0
  iintro ⟨D, I3⟩
  isplitl [AR]; · iexact AR
  isplitl [D B]
  · isplitl [D]; · iexact D
    iexact B
  isplitl [I1]; · iexact I1
  isplitl [I2]; · iexact I2
  iexact I3

/-- The last point takes its block and all three slots, and returns everything written and at rest. -/
theorem out_last (t : ℕ) (h : t = 7) :
    outRing c out t ⊢ iprop((resRaw (F := F) c (Ring.bk 8 t) ∗ outFlight c out (Ring.sl 3 t) (Ring.bk 8 (t - 3))
        ∗ outFlight c out (Ring.sl 3 (t + 1)) (Ring.bk 8 (t - 2)) ∗ outFlight c out (Ring.sl 3 (t + 2)) (Ring.bk 8 (t - 1)))
      ∗ ((resDone c out (Ring.bk 8 (t - 3)) ∗ resDone c out (Ring.bk 8 t) ∗ resDone c out (Ring.bk 8 (t - 1))
          ∗ resDone c out (Ring.bk 8 (t - 2)) ∗ outFree c (Ring.sl 3 (t + 2)) ∗ outFree c (Ring.sl 3 t) ∗ outFree c (Ring.sl 3 (t + 1)))
        -∗ outRing c out (t + 1))) := by
  unfold outRing
  rw [Ring.AtBΦ_lt _ _ _ _ _ t (by omega), Ring.AtBΦ_end _ _ _ _ _ (t + 1) (by omega), writeback_late _ _ _ _ t (by omega) (by omega),
    writeback_end _ _ t h]
  iintro ⟨⟨A, AR⟩, B, I0, I1, I2⟩
  isplitr [B AR]
  · isplitl [A]; · iexact A
    isplitl [I0]; · iexact I0
    isplitl [I1]; · iexact I1
    iexact I2
  iintro ⟨D3, D0, D1, D2, F2, F0, F1⟩
  iapply (Entails.of_eq (nothing_ahead (resRaw (F := F) c) t h _))
  isplitl [AR]; · iexact AR
  isplitl [D0 D1 D2 D3 B]
  · isplitl [D0]; · iexact D0
    isplitl [D1]; · iexact D1
    isplitl [D2]; · iexact D2
    isplitl [D3]; · iexact D3
    iexact B
  isplitl [F2]; · iexact F2
  isplitl [F0]; · iexact F0
  iexact F1

end Cert.KernelIdeal.Stream

end
-- ==== Proof.Exact.Ends.lean ====
/- The two rings' ends: the buffers handed over at the start are cut into slots and row blocks, and joined again after the
   last point, the result at the contents its blocks were written with. -/
module

public import proofs.«01_k».proof.Proof.Exact.Rings

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Which elements a slot and a block own -/

/-- The elements of input slot `s`. -/
abbrev inSlotSet (s : Fin 3) : Finset S3x4x2048x256.Idx := (Rect.unit (s := S3x4x2048x256) ![s.val, 0, 0, 0] S1x4x2048x256.size (inSlot_fits s)).set
/-- The elements an input slot looks at are that slot of the buffer. -/
theorem inSlot_set (s : Fin 3) : (inSlot s).view.set = inSlotSet s := by
  simp only [inSlot, Memref.view_squeeze, View.set_reshape]; exact View.set_slice_whole _ _
/-- They are pairwise disjoint, -/
theorem inSlots_apart (i j : Fin 3) (h : i ≠ j) : Disjoint (inSlotSet i) (inSlotSet j) :=
  Ring.lead_disjoint (s := S3x4x2048x256) (0 : Fin 4) 1 (fun s : Fin 3 => (![s.val, 0, 0, 0] : Fin 4 → ℕ)) S1x4x2048x256.size inSlot_fits (fun s => by simp) rfl i j h
/-- and all of them together are the whole array. -/
theorem inSlots_cover : Finset.univ.biUnion inSlotSet = Finset.univ :=
  Ring.lead_cover (s := S3x4x2048x256) (0 : Fin 4) 1 (fun s : Fin 3 => (![s.val, 0, 0, 0] : Fin 4 → ℕ)) S1x4x2048x256.size inSlot_fits (fun s => by simp)
    (fun s a ha => by fin_cases a <;> first | exact absurd rfl ha | rfl) rfl (fun a ha => by fin_cases a <;> first | exact absurd rfl ha | rfl) rfl
/-- The elements of output slot `s`. -/
abbrev outSlotSet (s : Fin 3) : Finset S3x4x1024x256.Idx := (Rect.unit (s := S3x4x1024x256) ![s.val, 0, 0, 0] S1x4x1024x256.size (outSlot_fits s)).set
/-- The elements an output slot looks at are that slot of the buffer. -/
theorem outSlot_set (s : Fin 3) : (outSlot s).view.set = outSlotSet s := by
  simp only [outSlot, Memref.view_squeeze, View.set_reshape]; exact View.set_slice_whole _ _
/-- They are pairwise disjoint, -/
theorem outSlots_apart (i j : Fin 3) (h : i ≠ j) : Disjoint (outSlotSet i) (outSlotSet j) :=
  Ring.lead_disjoint (s := S3x4x1024x256) (0 : Fin 4) 1 (fun s : Fin 3 => (![s.val, 0, 0, 0] : Fin 4 → ℕ)) S1x4x1024x256.size outSlot_fits (fun s => by simp) rfl i j h
/-- and all of them together are the whole array. -/
theorem outSlots_cover : Finset.univ.biUnion outSlotSet = Finset.univ :=
  Ring.lead_cover (s := S3x4x1024x256) (0 : Fin 4) 1 (fun s : Fin 3 => (![s.val, 0, 0, 0] : Fin 4 → ℕ)) S1x4x1024x256.size outSlot_fits (fun s => by simp)
    (fun s a ha => by fin_cases a <;> first | exact absurd rfl ha | rfl) rfl (fun a ha => by fin_cases a <;> first | exact absurd rfl ha | rfl) rfl
/-- The elements of block `s` of the child array. -/
abbrev inBlockSet (s : Fin 8) : Finset S32x2048x256.Idx := (Rect.unit (s := S32x2048x256) ![4 * s.val, 0, 0] S4x2048x256.size (inBlock_fits s)).set
/-- The elements a block of the child array looks at are its four batch rows. -/
theorem inBlock_set (s : Fin 8) : (inBlock s).view.set = inBlockSet s := by
  unfold inBlock; exact View.set_slice_whole _ _
/-- They are pairwise disjoint, -/
theorem inBlocks_apart (i j : Fin 8) (h : i ≠ j) : Disjoint (inBlockSet i) (inBlockSet j) :=
  Ring.lead_disjoint (s := S32x2048x256) (0 : Fin 3) 4 (fun s : Fin 8 => (![4 * s.val, 0, 0] : Fin 3 → ℕ)) S4x2048x256.size inBlock_fits (fun s => by simp) rfl i j h
/-- and all of them together are the whole array. -/
theorem inBlocks_cover : Finset.univ.biUnion inBlockSet = Finset.univ :=
  Ring.lead_cover (s := S32x2048x256) (0 : Fin 3) 4 (fun s : Fin 8 => (![4 * s.val, 0, 0] : Fin 3 → ℕ)) S4x2048x256.size inBlock_fits (fun s => by simp)
    (fun s a ha => by fin_cases a <;> first | exact absurd rfl ha | rfl) rfl (fun a ha => by fin_cases a <;> first | exact absurd rfl ha | rfl) rfl
/-- The elements of block `s` of the result. -/
abbrev outBlockSet (s : Fin 8) : Finset S32x1024x256.Idx := (Rect.unit (s := S32x1024x256) ![4 * s.val, 0, 0] S4x1024x256.size (outBlock_fits s)).set
/-- The elements a block of the result looks at are its four batch rows. -/
theorem outBlock_set (s : Fin 8) : (outBlock s).view.set = outBlockSet s := by
  unfold outBlock; exact View.set_slice_whole _ _
/-- They are pairwise disjoint, -/
theorem outBlocks_apart (i j : Fin 8) (h : i ≠ j) : Disjoint (outBlockSet i) (outBlockSet j) :=
  Ring.lead_disjoint (s := S32x1024x256) (0 : Fin 3) 4 (fun s : Fin 8 => (![4 * s.val, 0, 0] : Fin 3 → ℕ)) S4x1024x256.size outBlock_fits (fun s => by simp) rfl i j h
/-- and all of them together are the whole array. -/
theorem outBlocks_cover : Finset.univ.biUnion outBlockSet = Finset.univ :=
  Ring.lead_cover (s := S32x1024x256) (0 : Fin 3) 4 (fun s : Fin 8 => (![4 * s.val, 0, 0] : Fin 3 → ℕ)) S4x1024x256.size outBlock_fits (fun s => by simp)
    (fun s a ha => by fin_cases a <;> first | exact absurd rfl ha | rfl) rfl (fun a ha => by fin_cases a <;> first | exact absurd rfl ha | rfl) rfl

/-! ## The result, block by block -/

/-- The result whose block `u` reads as `out u`. -/
def joined (out : Fin 8 → S4x1024x256.Idx → Elt F .f32) : S32x1024x256.Idx → Elt F .f32 := fun i =>
  out ⟨(i 0).val / 4, by have h : (i 0).val < 32 := (i 0).isLt; omega⟩
    (fun a => match a with
      | ⟨0, _⟩ => ⟨(i 0).val % 4, Nat.mod_lt _ (by decide)⟩
      | ⟨1, _⟩ => ⟨(i 1).val, (i 1).isLt⟩
      | ⟨2, _⟩ => ⟨(i 2).val, (i 2).isLt⟩)

/-- An entry of the joined contents in block `u`. -/
theorem joined_at (out : Fin 8 → S4x1024x256.Idx → Elt F .f32) (u : Fin 8) (z : S4x1024x256.Idx) (i : S32x1024x256.Idx)
    (v0 : (i 0).val = 4 * u.val + 1 * (z 0).val) (v1 : (i 1).val = (z 1).val) (v2 : (i 2).val = (z 2).val) : joined out i = out u z := by
  have z0 : (z 0).val < 4 := (z 0).isLt
  unfold joined
  refine congr (congrArg out (Fin.ext (by show (i 0).val / 4 = u.val; omega))) (funext fun a => ?_)
  match a with
  | ⟨0, _⟩ => exact Fin.ext (by show (i 0).val % 4 = (z 0).val; omega)
  | ⟨1, _⟩ => exact Fin.ext v1
  | ⟨2, _⟩ => exact Fin.ext v2

/-- The elements of block `u`, at contents that read as `out u`, are those of `joined out`. -/
theorem resP_joined (c : Dev nD) (out : Fin 8 → S4x1024x256.Idx → Elt F .f32) (u : Fin 8) (f : BufOf (F := F) c (outBlock u))
    (e : (outBlock u).view.read (Elt F) f = out u) :
    resP c u f = (resP c u (joined out) : sProp 𝕄) := by
  refine pointsTo_congr fun i hi => ?_
  obtain ⟨z, -, rfl⟩ := Finset.mem_map.mp hi
  have e1 : f ((outBlock u).view.emb z) = out u z := congrFun e z
  refine e1.trans ?_
  let i : S32x1024x256.Idx := (outBlock u).view.emb z
  have v0 : (i 0).val = 4 * u.val + 1 * (z 0).val := rfl
  have v1 : (i 1).val = 0 + 1 * (z 1).val := rfl
  have v2 : (i 2).val = 0 + 1 * (z 2).val := rfl
  exact (joined_at out u z i v0 (by rw [v1]; omega) (by rw [v2]; omega)).symm

/-! ## The ends of the ring of inputs -/

/-- Two families side by side are one family of pairs. -/
theorem paired {n : ℕ} (P Q : Fin n → sProp 𝕄) : iprop(bigSep Finset.univ P ∗ bigSep Finset.univ Q) = bigSep Finset.univ fun s => iprop(P s ∗ Q s) :=
  (bigSep_sep Finset.univ P Q).symm

/-- Owning an input slot is owning its elements of the input buffer. -/
theorem inSlotP_eq (c : Dev nD) (s : Fin 3) (f) : inSlotP (F := F) c s f = (((c : Thread nD τ).loc cc0_scratch0) ↦[inSlotSet s]{fullShare} f : sProp 𝕄) := by
  unfold inSlotP held; rw [inSlot_set]; rfl
/-- Owning an output slot is owning its elements of the output buffer. -/
theorem outSlotP_eq (c : Dev nD) (s : Fin 3) (f) : outSlotP (F := F) c s f = (((c : Thread nD τ).loc cc0_scratch1) ↦[outSlotSet s]{fullShare} f : sProp 𝕄) := by
  unfold outSlotP held; rw [outSlot_set]; rfl
/-- Owning a block of the child array is owning its elements of the array. -/
theorem childP_eq (c : Dev nD) (W : BufOf (F := F) c childM) (b : Fin 8) : childP (F := F) c W b = (((c : Thread nD τ).loc main_arg1) ↦[inBlockSet b]{fullShare} W : sProp 𝕄) := by
  unfold childP held; rw [inBlock_set]; rfl
/-- Owning a block of the result is owning its elements of the array. -/
theorem resP_eq (c : Dev nD) (u : Fin 8) (f) : resP (F := F) c u f = (((c : Thread nD τ).loc main_v3) ↦[outBlockSet u]{fullShare} f : sProp 𝕄) := by
  unfold resP held; rw [outBlock_set]; rfl

/-- The child array whole is its blocks. -/
theorem child_blocks (c : Dev nD) (W : BufOf (F := F) c childM) : (heldWhole c childM W : sProp 𝕄) = bigSep Finset.univ (childP c W) :=
  (Ring.pointsTo_blocks (U := Pipeline.UD sig nD τ) (ℓ := (c : Thread nD τ).loc main_arg1) (q := fullShare) inBlockSet inBlocks_apart inBlocks_cover W).trans
    (bigSep_congr fun b _ => (childP_eq c W b).symm)
/-- The input buffer whole is its slots, -/
theorem inBuf_split (c : Dev nD) : iprop(∃ f, heldWhole (F := F) c inBuf f) ⊢ (bigSep Finset.univ (fun s => iprop(∃ f, inSlotP c s f)) : sProp 𝕄) :=
  Ring.pieces_split (U := Pipeline.UD sig nD τ) (ℓ := (c : Thread nD τ).loc cc0_scratch0) (q := fullShare) inSlotSet inSlots_apart inSlots_cover (inSlotP c) (inSlotP_eq c)
/-- and the slots make it up. -/
theorem inBuf_join (c : Dev nD) (f₀ : BufOf (F := F) c inBuf) : (bigSep Finset.univ (fun s => iprop(∃ f, inSlotP c s f)) : sProp 𝕄) ⊢ iprop(∃ f, heldWhole (F := F) c inBuf f) :=
  Ring.pieces_join (U := Pipeline.UD sig nD τ) (ℓ := (c : Thread nD τ).loc cc0_scratch0) (q := fullShare) inSlotSet inSlots_apart inSlots_cover (inSlotP c) (inSlotP_eq c) f₀
/-- The output buffer whole is its slots, -/
theorem outBuf_split (c : Dev nD) : iprop(∃ f, heldWhole (F := F) c outBuf f) ⊢ (bigSep Finset.univ (fun s => iprop(∃ f, outSlotP c s f)) : sProp 𝕄) :=
  Ring.pieces_split (U := Pipeline.UD sig nD τ) (ℓ := (c : Thread nD τ).loc cc0_scratch1) (q := fullShare) outSlotSet outSlots_apart outSlots_cover (outSlotP c) (outSlotP_eq c)
/-- and the slots make it up. -/
theorem outBuf_join (c : Dev nD) (f₀ : BufOf (F := F) c outBuf) : (bigSep Finset.univ (fun s => iprop(∃ f, outSlotP c s f)) : sProp 𝕄) ⊢ iprop(∃ f, heldWhole (F := F) c outBuf f) :=
  Ring.pieces_join (U := Pipeline.UD sig nD τ) (ℓ := (c : Thread nD τ).loc cc0_scratch1) (q := fullShare) outSlotSet outSlots_apart outSlots_cover (outSlotP c) (outSlotP_eq c) f₀
/-- The result whole, at anything, is its blocks. -/
theorem res_split (c : Dev nD) : iprop(∃ f, heldWhole (F := F) c resM f) ⊢ (bigSep Finset.univ (resRaw c) : sProp 𝕄) :=
  Ring.pieces_split (U := Pipeline.UD sig nD τ) (ℓ := (c : Thread nD τ).loc main_v3) (q := fullShare) outBlockSet outBlocks_apart outBlocks_cover (resP c) (resP_eq c)
/-- The blocks of the result, each written, are the result whole at the joined contents. -/
theorem res_join (c : Dev nD) (out : Fin 8 → S4x1024x256.Idx → Elt F .f32) :
    (bigSep Finset.univ (resDone c out) : sProp 𝕄) ⊢ heldWhole c resM (joined out) := by
  have one (u : Fin 8) : resDone c out u ⊢ (resP c u (joined out) : sProp 𝕄) := by
    iintro ⟨%f, %e, H⟩
    iapply (Entails.of_eq (resP_joined c out u f e)); iexact H
  have e : (heldWhole c resM (joined out) : sProp 𝕄) = bigSep Finset.univ fun u => resP c u (joined out) :=
    (Ring.pointsTo_blocks (U := Pipeline.UD sig nD τ) (ℓ := (c : Thread nD τ).loc main_v3) (q := fullShare) outBlockSet outBlocks_apart outBlocks_cover (joined out)).trans
      (bigSep_congr fun u _ => (resP_eq c u (joined out)).symm)
  rw [e]
  exact bigSep_mono fun u _ => one u

/-- What the launch hands over makes the input ring before the first point. -/
theorem inRing_start (c : Dev nD) (W : BufOf (F := F) c childM) :
    iprop((∃ f, heldWhole (F := F) c inBuf f) ∗ bigSep Finset.univ (inCellP (F := F) c) ∗ heldWhole c childM W) ⊢ inRing c W 0 := by
  unfold inRing; rw [if_pos rfl]; unfold Ring.At₀
  iintro ⟨Hb, Hc, Hw⟩
  isplitl [Hw]; · iapply (Entails.of_eq (child_blocks c W)); iexact Hw
  iapply (Entails.of_eq (paired (inCellP c) (fun s => iprop(∃ f, inSlotP c s f))))
  isplitl [Hc]; · iexact Hc
  iapply (inBuf_split c); iexact Hb

/-- The input ring after the last point gives it back. -/
theorem inRing_stop (c : Dev nD) (W : BufOf (F := F) c childM) (f₀ : BufOf (F := F) c inBuf) :
    inRing c W 8 ⊢ iprop((∃ f, heldWhole (F := F) c inBuf f) ∗ bigSep Finset.univ (inCellP (F := F) c) ∗ heldWhole c childM W) := by
  unfold inRing; rw [if_neg (by decide)]
  iintro H
  ihave H' := (Ring.free3_of_At_last _ _ _ _) $$ H
  icases H' with ⟨Hw, Hf⟩
  ihave Hf' := (Entails.of_eq (Ring.bigSep_fin3 (Ring.free (inCellP (F := F) c) (inSlotP c))).symm) $$ Hf
  ihave Hf'' := (Entails.of_eq (paired (inCellP c) (fun s => iprop(∃ f, inSlotP c s f))).symm) $$ Hf'
  icases Hf'' with ⟨Hc, Hs⟩
  isplitl [Hs]; · iapply (inBuf_join c f₀); iexact Hs
  isplitl [Hc]; · iexact Hc
  iapply (Entails.of_eq (child_blocks c W).symm); iexact Hw

/-! ## The ends of the ring of outputs -/

/-- What the launch hands over makes the output ring before the first point. -/
theorem outRing_start (c : Dev nD) (out : Fin 8 → S4x1024x256.Idx → Elt F .f32) :
    iprop((∃ f, heldWhole (F := F) c outBuf f) ∗ bigSep Finset.univ (outCellP (F := F) c) ∗ ∃ f, heldWhole (F := F) c resM f) ⊢ outRing c out 0 := by
  unfold outRing; rw [Ring.AtBΦ_lt _ _ _ _ _ 0 (by decide), Ring.AtB_zero]; unfold Ring.AtB₀
  iintro ⟨Hb, Hc, Hw⟩
  isplitl [Hw]; · iapply (res_split c); iexact Hw
  iapply (Entails.of_eq (paired (outCellP c) (fun s => iprop(∃ f, outSlotP c s f))))
  isplitl [Hc]; · iexact Hc
  iapply (outBuf_split c); iexact Hb

/-- The output ring after the last point gives it back, the result at the joined contents. -/
theorem outRing_stop (c : Dev nD) (out : Fin 8 → S4x1024x256.Idx → Elt F .f32) (f₀ : BufOf (F := F) c outBuf) :
    outRing c out 8 ⊢ iprop((∃ f, heldWhole (F := F) c outBuf f) ∗ bigSep Finset.univ (outCellP (F := F) c) ∗ heldWhole c resM (joined out)) := by
  unfold outRing; rw [Ring.AtBΦ_end _ _ _ _ _ 8 rfl]; unfold Ring.AtBEnd
  iintro ⟨Hd, Hf⟩
  ihave Hf' := (Entails.of_eq (paired (outCellP c) (fun s => iprop(∃ f, outSlotP c s f))).symm) $$ Hf
  icases Hf' with ⟨Hc, Hs⟩
  isplitl [Hs]; · iapply (outBuf_join c f₀); iexact Hs
  isplitl [Hc]; · iexact Hc
  iapply (res_join c out); iexact Hd

end Cert.KernelIdeal.Stream

end
-- ==== Proof.Exact.Launch.lean ====
/- The launch: the rings as the invariant of the pipeline, each point's obligation, and the whole run — the arguments
   unchanged, every counter back at zero, and the result at the contents its blocks were computed to. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.Exact.Body
public import proofs.«01_k».proof.Proof.Exact.Steps
public import proofs.«01_k».proof.Proof.Exact.Ends
public import Idealize.ShloMosaic.Lib.Pipeline.FrameValue
public import Idealize.ShloMosaic.Lib.Pipeline.Value
public import Idealize.ShloMosaic.Lib.Claim

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is computed -/

/-- The block of the result computed from block `u` of the child array as the region finds it. -/
def blockOut (c : Dev nD) : Fin 8 → S4x1024x256.Idx → Elt F .f32 := tile c (V m c main_arg1) (V m c main_v1) (V m c main_v2)
/-- The result: the computed blocks side by side. -/
def result (c : Dev nD) : S32x1024x256.Idx → Elt F .f32 := joined (blockOut m c)

/-- The staged weights are the whole array at every point, -/
theorem staged_weights (c : Dev nD) (t : Fin cfg0.N) : iblk m c 0 t = V m c main_v1 := by
  funext z
  exact congrArg (V m c main_v1) (funext fun a => Fin.ext (Window.rect_emb_val_of_index_zero win0_0 t a (by fin_cases a <;> rfl) z))
/-- and so is the staged bias. -/
theorem staged_bias (c : Dev nD) (t : Fin cfg0.N) : iblk m c 1 t = V m c main_v2 := by
  funext z
  exact congrArg (V m c main_v2) (funext fun a => Fin.ext (Window.rect_emb_val_of_index_zero win0_1 t a (by fin_cases a <;> rfl) z))

/-! ## The proof data -/

/-- The invariant before point `k`: the generator register, the ring of inputs and the ring of outputs. -/
def streams (c : Dev nD) (k : ℕ) : sProp 𝕄 :=
  iprop((∃ r, prngReg c r) ∗ inRing c (V m c main_arg1) k ∗ outRing c (blockOut m c) k)

/-- The pipeline's proof data: the arrays as the region finds them, each staged operand left in place, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := streams m c t.val
  q _ := fullShare
  owed _ := 0

/-- The staged arrays are what the region finds. -/
theorem dats_arrays (c : Dev nD) (w : Fin cfg0.W) : (dats m 0 c).A w = V m c (Pipeline.arrRef spec0 w) := by dsimp only [dats]
/-- Before point `t` the two rings are at state `t`. -/
theorem dats_here (c : Dev nD) (t : Fin cfg0.N) : (dats m 0 c).Φ t.castSucc = streams m c t.val := by
  dsimp only [dats]; simp only [Fin.coe_castSucc]
/-- After point `t` the two rings are at state `t + 1`. -/
theorem dats_next (c : Dev nD) (t : Fin cfg0.N) : (dats m 0 c).Φ t.succ = streams m c (t.val + 1) := by
  dsimp only [dats]; simp only [Fin.val_succ]
/-- The staged weights stay as they were. -/
theorem dats_after0 (c : Dev nD) (t : Fin cfg0.N) : (dats m 0 c).after 0 t = iblk m c 0 t := by dsimp only [dats]
/-- The staged bias stays as it was. -/
theorem dats_after1 (c : Dev nD) (t : Fin cfg0.N) : (dats m 0 c).after 1 t = iblk m c 1 t := by dsimp only [dats]

/-- The staged weights are in place before every point's body, -/
theorem dats_before0 (c : Dev nD) (t : Fin cfg0.N) (d) : (dats m 0 c).before 0 t d = iblk m c 0 t :=
  ((dats m 0 c).before_in_eq_fetched 0 rfl (fun _ => rfl) (fun _ _ _ => rfl)
    (fun t => by rw [dats_after0]; unfold Dat.blockOf iblk; rw [dats_arrays]; try rfl) t d).trans
    (by unfold Dat.fetched Dat.blockOf iblk; rw [dats_arrays]; try rfl)
/-- and so is the bias. -/
theorem dats_before1 (c : Dev nD) (t : Fin cfg0.N) (d) : (dats m 0 c).before 1 t d = iblk m c 1 t :=
  ((dats m 0 c).before_in_eq_fetched 1 rfl (fun _ => rfl) (fun _ _ _ => rfl)
    (fun t => by rw [dats_after1]; unfold Dat.blockOf iblk; rw [dats_arrays]; try rfl) t d).trans
    (by unfold Dat.fetched Dat.blockOf iblk; rw [dats_arrays]; try rfl)

/-! ## The body's obligation -/

/-- What a point's body is called with, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- What a point starts from, spelled out: the two staged operands, the register and the two rings. -/
theorem given_eq (c : Dev nD) (t : Fin cfg0.N) :
    given m c t ⊢ iprop(∃ V' : Waits sig Unit, (∃ r, prngReg c r) ∗ inRing c (V m c main_arg1) t.val ∗ outRing c (blockOut m c) t.val
      ∗ owes (c : Thread nD τ) 0 V' ∗ owns (c : Thread nD τ) (st0_0 t) fullShare (V m c main_v1) ∗ owns (c : Thread nD τ) (st0_1 t) fullShare (V m c main_v2)) := by
  unfold given
  simp only [dats_before0, dats_before1, dats_here, staged_weights, staged_bias]
  unfold Dat.owesAt Pipeline.owesWithin streams
  rw [show (dats m 0 c).owed t.castSucc = 0 from rfl]
  iintro ⟨⟨Hg, Hi, Ho⟩, ⟨%W, -, HW⟩, ⟨%d0, H0⟩, ⟨%d1, H1⟩⟩
  iexists W
  isplitl [Hg]; · iexact Hg
  isplitl [Hi]; · iexact Hi
  isplitl [Ho]; · iexact Ho
  isplitl [HW]; · iexact HW
  isplitl [H0]; · iexact H0
  iexact H1

/-- What a point must return, spelled out likewise. -/
theorem returned_eq (c : Dev nD) (t : Fin cfg0.N) :
    iprop((∃ r, prngReg c r) ∗ inRing c (V m c main_arg1) (t.val + 1) ∗ outRing c (blockOut m c) (t.val + 1)
      ∗ (∃ V', owes (c : Thread nD τ) 0 V') ∗ owns (c : Thread nD τ) (st0_0 t) fullShare (V m c main_v1) ∗ owns (c : Thread nD τ) (st0_1 t) fullShare (V m c main_v2))
      ⊢ returned m c t := by
  unfold returned
  rw [dats_next, dats_after0, dats_after1, staged_weights, staged_bias]
  unfold Dat.owesAt Pipeline.owesWithin streams
  rw [show (dats m 0 c).owed t.succ = 0 from rfl]
  iintro ⟨Hg, Hi, Ho, ⟨%W, HW⟩, H0, H1⟩
  isplitl [Hg Hi Ho]
  · isplitl [Hg]; · iexact Hg
    isplitl [Hi]; · iexact Hi
    iexact Ho
  isplitl [HW]
  · iexists W; isplitr; · ipureintro; exact fun _ _ => Or.inl trivial
    iexact HW
  isplitl [H0]; · iexact H0
  iexact H1

set_option maxHeartbeats 800000 in
/-- The obligation at the first point. -/
theorem sound_first (c : Dev nD) (t : Fin cfg0.N) (hz : t.val = 0) :
    given m c t ⊢ wp frame (wpE (defs₀ (F := F)) Variants.none c none) Set.univ (bodyAt0 t) (fun _ => returned m c t) := by
  refine (given_eq m c t).trans ?_
  iintro ⟨%V', Hg, Hi, Ho, HW, H0, H1⟩
  ihave Hi' := (in_first c _ t.val hz) $$ Hi
  icases Hi' with ⟨⟨A0, A1, A2, F0, F1, F2⟩, Hi⟩
  ihave Ho' := (out_early c _ t.val (by omega)) $$ Ho
  icases Ho' with ⟨⟨R, OF⟩, Ho⟩
  iapply (run_first c t _ _ _ _ ((isFirst_iff t).mpr (by omega)) ((fetches_iff t).mpr (by omega)) (fun h => absurd ((reclaims_iff t).mp h) (by omega)) (fun h => absurd ((isLast_iff t).mp h) (by omega)) hz (V m c main_v1) (V m c main_v2) (V m c main_arg1) V' _)
  isplitl [H0]; · iexact H0
  isplitl [H1]; · iexact H1
  isplitl [A0]; · iexact A0
  isplitl [A1]; · iexact A1
  isplitl [A2]; · iexact A2
  isplitl [F0]; · iexact F0
  isplitl [F1]; · iexact F1
  isplitl [F2]; · iexact F2
  isplitl [R]; · iexact R
  isplitl [OF]; · iexact OF
  isplitl [HW]; · iexact HW
  iintro ⟨H0, H1, A0, I1, I2, F0, OI, HW⟩
  iapply (returned_eq m c t)
  isplitl [Hg]; · iexact Hg
  isplitl [Hi A0 I1 I2 F0]
  · iapply Hi
    isplitl [A0]; · iexact A0
    isplitl [I1]; · iexact I1
    isplitl [I2]; · iexact I2
    iexact F0
  isplitl [Ho OI]
  · iapply Ho
    iexact OI
  isplitl [HW]; · iexact HW
  isplitl [H0]; · iexact H0
  iexact H1

set_option maxHeartbeats 800000 in
/-- The obligation at the two points after the first. -/
theorem sound_early (c : Dev nD) (t : Fin cfg0.N) (h : 1 ≤ t.val) (h' : t.val < 3) :
    given m c t ⊢ wp frame (wpE (defs₀ (F := F)) Variants.none c none) Set.univ (bodyAt0 t) (fun _ => returned m c t) := by
  refine (given_eq m c t).trans ?_
  iintro ⟨%V', Hg, Hi, Ho, HW, H0, H1⟩
  ihave Hi' := (in_mid c _ t.val h (by omega)) $$ Hi
  icases Hi' with ⟨⟨A2, I0, F2⟩, Hi⟩
  ihave Ho' := (out_early c _ t.val h') $$ Ho
  icases Ho' with ⟨⟨R, OF⟩, Ho⟩
  iapply (run_early c t _ _ _ _ (fun h => absurd ((isFirst_iff t).mp h) (by omega)) ((fetches_iff t).mpr (by omega)) (fun h => absurd ((reclaims_iff t).mp h) (by omega)) (fun h => absurd ((isLast_iff t).mp h) (by omega))  (V m c main_v1) (V m c main_v2) (V m c main_arg1) V' _)
  isplitl [H0]; · iexact H0
  isplitl [H1]; · iexact H1
  isplitl [A2]; · iexact A2
  isplitl [I0]; · iexact I0
  isplitl [F2]; · iexact F2
  isplitl [R]; · iexact R
  isplitl [OF]; · iexact OF
  isplitl [HW]; · iexact HW
  iintro ⟨H0, H1, A0, I2, F0, OI, HW⟩
  iapply (returned_eq m c t)
  isplitl [Hg]; · iexact Hg
  isplitl [Hi A0 I2 F0]
  · iapply Hi
    isplitl [A0]; · iexact A0
    isplitl [I2]; · iexact I2
    iexact F0
  isplitl [Ho OI]
  · iapply Ho
    iexact OI
  isplitl [HW]; · iexact HW
  isplitl [H0]; · iexact H0
  iexact H1

set_option maxHeartbeats 800000 in
/-- The obligation at the three points in the middle. -/
theorem sound_middle (c : Dev nD) (t : Fin cfg0.N) (h : 3 ≤ t.val) (h' : t.val < 6) :
    given m c t ⊢ wp frame (wpE (defs₀ (F := F)) Variants.none c none) Set.univ (bodyAt0 t) (fun _ => returned m c t) := by
  refine (given_eq m c t).trans ?_
  iintro ⟨%V', Hg, Hi, Ho, HW, H0, H1⟩
  ihave Hi' := (in_mid c _ t.val (by omega) (by omega)) $$ Hi
  icases Hi' with ⟨⟨A2, I0, F2⟩, Hi⟩
  ihave Ho' := (out_late c _ t.val h (by omega)) $$ Ho
  icases Ho' with ⟨⟨R, OF⟩, Ho⟩
  iapply (run_middle c t _ _ _ _ (fun h => absurd ((isFirst_iff t).mp h) (by omega)) ((fetches_iff t).mpr (by omega)) ((reclaims_iff t).mpr (by omega)) (fun h => absurd ((isLast_iff t).mp h) (by omega))  (V m c main_v1) (V m c main_v2) (V m c main_arg1) V' _)
  isplitl [H0]; · iexact H0
  isplitl [H1]; · iexact H1
  isplitl [A2]; · iexact A2
  isplitl [I0]; · iexact I0
  isplitl [F2]; · iexact F2
  isplitl [R]; · iexact R
  isplitl [OF]; · iexact OF
  isplitl [HW]; · iexact HW
  iintro ⟨H0, H1, A0, I2, F0, OD, OI, HW⟩
  iapply (returned_eq m c t)
  isplitl [Hg]; · iexact Hg
  isplitl [Hi A0 I2 F0]
  · iapply Hi
    isplitl [A0]; · iexact A0
    isplitl [I2]; · iexact I2
    iexact F0
  isplitl [Ho OD OI]
  · iapply Ho
    isplitl [OD]; · iexact OD
    iexact OI
  isplitl [HW]; · iexact HW
  isplitl [H0]; · iexact H0
  iexact H1

set_option maxHeartbeats 800000 in
/-- The obligation at the last but one point. -/
theorem sound_late (c : Dev nD) (t : Fin cfg0.N) (h : t.val = 6) :
    given m c t ⊢ wp frame (wpE (defs₀ (F := F)) Variants.none c none) Set.univ (bodyAt0 t) (fun _ => returned m c t) := by
  refine (given_eq m c t).trans ?_
  iintro ⟨%V', Hg, Hi, Ho, HW, H0, H1⟩
  ihave Hi' := (in_tail c _ t.val (by omega) (by omega)) $$ Hi
  icases Hi' with ⟨I0, Hi⟩
  ihave Ho' := (out_late c _ t.val (by omega) (by omega)) $$ Ho
  icases Ho' with ⟨⟨R, OF⟩, Ho⟩
  iapply (run_late c t _ _ _ _ (fun h => absurd ((isFirst_iff t).mp h) (by omega)) (fun h => absurd ((fetches_iff t).mp h) (by omega)) ((reclaims_iff t).mpr (by omega)) (fun h => absurd ((isLast_iff t).mp h) (by omega))  (V m c main_v1) (V m c main_v2) (V m c main_arg1) V' _)
  isplitl [H0]; · iexact H0
  isplitl [H1]; · iexact H1
  isplitl [I0]; · iexact I0
  isplitl [R]; · iexact R
  isplitl [OF]; · iexact OF
  isplitl [HW]; · iexact HW
  iintro ⟨H0, H1, A0, F0, OD, OI, HW⟩
  iapply (returned_eq m c t)
  isplitl [Hg]; · iexact Hg
  isplitl [Hi A0 F0]
  · iapply Hi
    isplitl [A0]; · iexact A0
    iexact F0
  isplitl [Ho OD OI]
  · iapply Ho
    isplitl [OD]; · iexact OD
    iexact OI
  isplitl [HW]; · iexact HW
  isplitl [H0]; · iexact H0
  iexact H1

set_option maxHeartbeats 800000 in
/-- The obligation at the last point. -/
theorem sound_last (c : Dev nD) (t : Fin cfg0.N) (h : t.val = 7) :
    given m c t ⊢ wp frame (wpE (defs₀ (F := F)) Variants.none c none) Set.univ (bodyAt0 t) (fun _ => returned m c t) := by
  refine (given_eq m c t).trans ?_
  iintro ⟨%V', Hg, Hi, Ho, HW, H0, H1⟩
  ihave Hi' := (in_tail c _ t.val (by omega) (by omega)) $$ Hi
  icases Hi' with ⟨I0, Hi⟩
  ihave Ho' := (out_last c _ t.val h) $$ Ho
  icases Ho' with ⟨⟨R, OF, OF1, OF2⟩, Ho⟩
  iapply (run_last c t _ _ _ _ (fun h => absurd ((isFirst_iff t).mp h) (by omega)) (fun h => absurd ((fetches_iff t).mp h) (by omega)) ((reclaims_iff t).mpr (by omega)) ((isLast_iff t).mpr (by omega)) (drains0 t) ((drains1_iff t).mpr (by omega)) ((drains2_iff t).mpr (by omega))  (V m c main_v1) (V m c main_v2) (V m c main_arg1) V' _)
  isplitl [H0]; · iexact H0
  isplitl [H1]; · iexact H1
  isplitl [I0]; · iexact I0
  isplitl [R]; · iexact R
  isplitl [OF]; · iexact OF
  isplitl [OF1]; · iexact OF1
  isplitl [OF2]; · iexact OF2
  isplitl [HW]; · iexact HW
  iintro ⟨H0, H1, A0, F0, D3, D0, D1, D2, G2, G0, G1, HW⟩
  iapply (returned_eq m c t)
  isplitl [Hg]; · iexact Hg
  isplitl [Hi A0 F0]
  · iapply Hi
    isplitl [A0]; · iexact A0
    iexact F0
  isplitl [Ho D3 D0 D1 D2 G2 G0 G1]
  · iapply Ho
    isplitl [D3]; · iexact D3
    isplitl [D0]; · iexact D0
    isplitl [D1]; · iexact D1
    isplitl [D2]; · iexact D2
    isplitl [G2]; · iexact G2
    isplitl [G0]; · iexact G0
    iexact G1
  isplitl [HW]; · iexact HW
  isplitl [H0]; · iexact H0
  iexact H1

/-- Every point's obligation. -/
theorem sound (c : Dev nD) (t : Fin cfg0.N) :
    given m c t ⊢ wp frame (wpE (defs₀ (F := F)) Variants.none c none) Set.univ (bodyAt0 t) (fun _ => returned m c t) := by
  have hN : t.val < 8 := lt_of_lt_of_eq t.isLt (show cfg0.N = 8 from N_0)
  rcases (show t.val = 0 ∨ (1 ≤ t.val ∧ t.val < 3) ∨ (3 ≤ t.val ∧ t.val < 6) ∨ t.val = 6 ∨ t.val = 7 by omega) with h | h | h | h | h
  · exact sound_first m c t h
  · exact sound_early m c t h.1 h.2
  · exact sound_middle m c t h.1 h.2
  · exact sound_late m c t h
  · exact sound_last m c t h

/-- The body the pipeline calls at point `t` is the kernel's. -/
theorem body_row (t : Fin cfg0.N) : defs₀ (F := F) .tc cfg0.body (cfg0.bodyArgs t (cfg0.slots t)) = bodyAt0 t := by
  unfold defs₀; rw [Defs.onTc_tc]

/-- At every point the body leads from the rings' state before it to their state after it. -/
theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The launch -/

/-- The semaphore cells the body signals itself. -/
abbrev ownCells : Fin 6 → SemLoc sig :=
  fun j => (![SemLoc.dma 2, SemLoc.dma 3, SemLoc.dma 4, SemLoc.dma 5, SemLoc.dma 6, SemLoc.dma 7] : Fin 6 → SemLoc sig) j
/-- The body's semaphore cells are distinct, and none of them is one of the pipeline's. -/
theorem ownCells_ok : Pipeline.OwnSemFacts spec0 ownCells := by decide
/-- The array the body reads by its own copies, -/
def readHbm : Finset (Ref sig .tc) := {main_arg1}
/-- The child array is not one of the staged arrays. -/
theorem readHbm_sub : readHbm ⊆ Pipeline.restRefs sig spec0 := by decide
/-- and the one it writes. -/
def writtenHbm : Finset (Ref sig .tc) := {main_v3}
/-- The result is neither staged nor read. -/
theorem writtenHbm_sub : writtenHbm ⊆ Pipeline.restRefs sig spec0 \ readHbm := by decide

/-- The cells at zero, three for the inputs and three for the outputs. -/
theorem cells_eq (c : Dev nD) :
    (Pipeline.ownSems0 (Ix := Unit) (Name := ℕ) (U := Pipeline.UD sig nD τ) (Lvl := ℕ) (Val := Elt F) (τ := τ) ownCells c : sProp 𝕄)
      = iprop(inCellP (F := F) c 0 ∗ inCellP (F := F) c 1 ∗ inCellP (F := F) c 2 ∗ outCellP (F := F) c 0 ∗ outCellP (F := F) c 1 ∗ outCellP (F := F) c 2) := by
  rw [Pipeline.ownSems0_eq_of_list c ownCells [0, 1, 2, 3, 4, 5] (by decide) (by decide)]; rfl

/-- What the launch hands over, in the rings' words. -/
theorem handed_eq (G : (c : Dev nD) → (b : Ref sig .tc) → Buf (Elt F) ((c.tc : Thread nD τ).loc b)) (c : Dev nD) :
    (Pipeline.ΦDRG ownCells spec0 readHbm writtenHbm (V m) G c : sProp 𝕄)
      = iprop(((∃ f, heldWhole (F := F) c inBuf f) ∗ (∃ f, heldWhole (F := F) c outBuf f)) ∗ (∃ r, prngReg c r)
          ∗ (inCellP (F := F) c 0 ∗ inCellP (F := F) c 1 ∗ inCellP (F := F) c 2 ∗ outCellP (F := F) c 0 ∗ outCellP (F := F) c 1 ∗ outCellP (F := F) c 2)
          ∗ heldWhole (F := F) c childM (V m c main_arg1) ∗ heldWhole (F := F) c resM (G c main_v3)) := by
  rw [Pipeline.ΦDRG_eq, scopedRest0_eq, cells_eq]
  unfold readHbm writtenHbm
  rw [Pipeline.routed_singleton, bigSep_singleton]

/-- The array written, at what it ends with. -/
def ends (c : Dev nD) (b : Ref sig .tc) : Buf (Elt F) ((c.tc : Thread nD τ).loc b) :=
  if h : b = main_v3 then h ▸ (result m c) else V m c b
/-- The result ends with its blocks joined. -/
theorem ends_result (c : Dev nD) : ends m c main_v3 = result m c := by unfold ends; rw [dif_pos rfl]

/-- What the launch hands over is the rings' state before the first point. -/
theorem launch_in (c : Dev nD) : Pipeline.ΦDRG ownCells spec0 readHbm writtenHbm (V m) (V m) c ⊢ (dats m 0 c).Φ 0 := by
  rw [handed_eq, show (dats m 0 c).Φ 0 = streams m c 0 from rfl]
  unfold streams
  iintro ⟨⟨Hi, Ho⟩, Hg, ⟨C0, C1, C2, D0, D1, D2⟩, Hw, Hr⟩
  isplitl [Hg]; · iexact Hg
  isplitl [Hi C0 C1 C2 Hw]
  · iapply (inRing_start c _)
    isplitl [Hi]; · iexact Hi
    isplitl [C0 C1 C2]
    · iapply (Entails.of_eq (Ring.bigSep_fin3 (inCellP (F := F) c)).symm)
      isplitl [C0]; · iexact C0
      isplitl [C1]; · iexact C1
      iexact C2
    iexact Hw
  iapply (outRing_start c _)
  isplitl [Ho]; · iexact Ho
  isplitl [D0 D1 D2]
  · iapply (Entails.of_eq (Ring.bigSep_fin3 (outCellP (F := F) c)).symm)
    isplitl [D0]; · iexact D0
    isplitl [D1]; · iexact D1
    iexact D2
  iexists _; iexact Hr

/-- The rings' state after the last point is what the launch takes back, the result written. -/
theorem launch_out (c : Dev nD) :
    (dats m 0 c).Φ (Fin.last cfg0.N) ⊢ Pipeline.ΦDRG ownCells spec0 readHbm writtenHbm (V m) (ends m) c := by
  rw [handed_eq, show (dats m 0 c).Φ (Fin.last cfg0.N) = streams m c grid0.N from rfl, show grid0.N = 8 by rw [N_0], ends_result]
  unfold streams
  iintro ⟨Hg, Hi, Ho⟩
  ihave Hi' := (inRing_stop c _ (m ((c : Thread nD τ).loc cc0_scratch0))) $$ Hi
  icases Hi' with ⟨Hi, Hc, Hw⟩
  ihave Hc' := (Entails.of_eq (Ring.bigSep_fin3 (inCellP (F := F) c))) $$ Hc
  icases Hc' with ⟨C0, C1, C2⟩
  ihave Ho' := (outRing_stop c _ (m ((c : Thread nD τ).loc cc0_scratch1))) $$ Ho
  icases Ho' with ⟨Ho, Hd, Hr⟩
  ihave Hd' := (Entails.of_eq (Ring.bigSep_fin3 (outCellP (F := F) c))) $$ Hd
  icases Hd' with ⟨D0, D1, D2⟩
  isplitl [Hi Ho]
  · isplitl [Hi]; · iexact Hi
    iexact Ho
  isplitl [Hg]; · iexact Hg
  isplitl [C0 C1 C2 D0 D1 D2]
  · isplitl [C0]; · iexact C0
    isplitl [C1]; · iexact C1
    isplitl [C2]; · iexact C2
    isplitl [D0]; · iexact D0
    isplitl [D1]; · iexact D1
    iexact D2
  isplitl [Hw]; · iexact Hw
  iexact Hr

set_option maxHeartbeats 800000 in
/-- The whole program up to its one region. -/
theorem main_before : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the launch theorem's implicit arguments are found by unifying its conclusion with this one
set_option backward.isDefEq.respectTransparency.types false in
/-- The run: the arrays outside the kernel as the region found them, the result at its computed contents, every counter at
    zero. -/
theorem run_full : θ_run defs (onTc (τ := τ) (main (F := F))) (s₀ m ρ)
    (fun r => (Pipeline.FramePostRG cfgs (dats m) 0 writtenHbm (V m) (ends m)) r ∧ r.2.sem = fun _ => 0) :=
  Pipeline.θ_run_frame_dmaRG (Q' := _) cfgs (dats m) (0 : Fin 1) launch0 ownCells defs₀ Variants.none ownCells_ok readHbm writtenHbm
    readHbm_sub writtenHbm_sub m ρ main
    (hbody := fun c => (obligation m c).loose) (hshare := fun c => (dats m 0 c).share_full fun _ => rfl)
    (howed := fun _ _ => rfl) (V := V m) (hmain := main_before m) (hA := dats_arrays m) (G := ends m)
    (hin := launch_in m) (hout := launch_out m)

/-- An argument array is one the run leaves alone. -/
theorem kept {r : PUnit × MemSt nD τ sig (Elt F)} (h : Pipeline.FramePostRG cfgs (dats m) 0 writtenHbm (V m) (ends m) r) (c : Dev nD) (b : Ref sig .tc)
    (hb : b ∈ Pipeline.restRefs sig spec0 \ writtenHbm) (e : V m c b = m ((c : Thread nD τ).loc b)) :
    r.2.mem ((c.tc : Thread nD τ).loc b) = m ((c : Thread nD τ).loc b) := ((h.toR c).2 b hb).trans e

/-- The arguments end as they were. -/
theorem arguments_kept {r : PUnit × MemSt nD τ sig (Elt F)} (h : Pipeline.FramePostRG cfgs (dats m) 0 writtenHbm (V m) (ends m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨kept m h c main_arg0 (by decide) (V_main_arg0 m c), kept m h c main_arg1 (by decide) (V_main_arg1 m c),
    kept m h c main_arg2 (by decide) (V_main_arg2 m c), kept m h c main_arg3 (by decide) (V_main_arg3 m c),
    kept m h c main_arg4 (by decide) (V_main_arg4 m c)⟩

/-- The frame: the arguments unchanged and every counter at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => arguments_kept m h.1 c, h.2⟩) (run_full m ρ)

/-- The value: the result at its computed contents, the arguments unchanged. -/
theorem run_value : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.written c (Finset.mem_singleton_self _)).trans (ends_result m c), arguments_kept m h.1 c⟩) (run_full m ρ)

end Cert.KernelIdeal.Stream

end
-- ==== Proof.Value.Masked.lean ====
/- The rows that the reference convolves, when every row is masked: the positions of the mask are 0, 1, 2, … in order, so each row of the
   parent is overwritten by the child's row of the same number, and the array convolved is the child array itself. -/
module

public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.Words
public import Idealize.ShloMosaic.Lib.Routing.Count

@[expose] public section

noncomputable section

namespace Cert.ReferenceIdeal.Masked

open Cert.ReferenceIdeal Cert.ReferenceIdeal.Gen Cert.ReferenceIdeal.Value Idealize.ShloMosaic Idealize.ShloMosaic.TcCoe Idealize.ShloMosaic.StableHlo
open Idealize.ShloMosaic.ValueIdx Idealize.ShloMosaic.Routing Idealize.ShloMosaic.WordCmp

variable {F : FTy → Type} [FloatOps F]
variable (V0 : Valuation τ sig (Elt F))

/-! ## Counting -/

/-- A running sum of ones is the position counted from one. -/
theorem sum_ones (n : ℕ) : ((List.range n).map fun _ => 1).sum = n := by simp

/-- Among the numbers below `N`, those that lie below `x` are `x` many, for `x ≤ N`. -/
theorem count_below (x N : ℕ) (h : x ≤ N) : Nat.count (fun i => i + 1 ≤ x) N = x := by
  have e : ∀ n, Nat.count (fun i => i + 1 ≤ x) n = min x n := fun n => by
    induction n with
    | zero => simp
    | succ n ih =>
      rw [Nat.count_succ, ih]
      split <;> omega
  rw [e, Nat.min_eq_left h]

/-! ## The positions of the mask -/

/-- The wrap of a negative index leaves the small naturals as they are, and the list becomes a column of indices. -/
theorem index_column (x : IVec S65536 32) (a : IVec S65536 32) (i : Fin 65536) (n : ℕ) (hn : n < 2 ^ 31) (hx : x (ix1 i) = BitVec.ofNat 32 n) :
    broadcastInDim S65536x1 ![0] bcast_S65536_S65536x1_0
      (select (cmpi .slt x (broadcastInDim S65536 ![] bcast_S_S65536 (constantI S_ 32 0#32))) a x) (ix2 i (0 : Fin 1)) = BitVec.ofNat 32 n := by
  refine (bcCol bcast_S65536_S65536x1_0 _ i).trans ?_
  rw [select_at, cmpi_at, bc0 bcast_S_S65536, constantI_at, wrap_of_lt, hx]
  rw [hx, BitVec.toNat_ofNat, Nat.mod_eq_of_lt (by omega)]
  exact hn

/-- A scatter of whole rows, one row number for each: update `(i, e)` lands at `(r, c)` exactly when row number `i` is `r` and `e` is `c`. -/
theorem row_lands (idx : IVec S65536x1 32) (i : Fin 65536) (e : Fin 256) (r : Fin 65536) (c : Fin 256) :
    scatter_S65536x256_S65536x1_S65536x256_1_0_0_1.resultIdx? (ix2 i e) idx = some (ix2 r c)
      ↔ (idx (ix2 i (0 : Fin 1))).toInt = (r.val : Int) ∧ (e.val : Int) = (c.val : Int) := by
  have e0 : scatter_S65536x256_S65536x1_S65536x256_1_0_0_1.start (ix2 i e) idx 0 = (idx (ix2 i (0 : Fin 1))).toInt := by
    refine congrArg (fun j => (idx j).toInt) (funext fun b => ?_)
    match b with
    | ⟨0, _⟩ => rfl
    | ⟨1, _⟩ => rfl
  have e1 : scatter_S65536x256_S65536x1_S65536x256_1_0_0_1.start (ix2 i e) idx 1 = 0 := rfl
  have w0 : scatter_S65536x256_S65536x1_S65536x256_1_0_0_1.window (ix2 i e) 0 = 0 := rfl
  have w1 : scatter_S65536x256_S65536x1_S65536x256_1_0_0_1.window (ix2 i e) 1 = e.val := rfl
  rw [resultIdx?_ix2, e0, e1, w0, w1]
  simp only [Nat.cast_zero, add_zero, zero_add]

/-- An index of the flat array is a row and a column. -/
theorem row_column (j : S65536x256.Idx) : ∃ (r : Fin 65536) (c : Fin 256), j = ix2 r c := ⟨j 0, j 1, funext fun a => by
  match a with
  | ⟨0, _⟩ => rfl
  | ⟨1, _⟩ => rfl⟩

section AllMasked
variable (hm : ∀ i, (V0 (Proc.devRef .tc main_arg2) : IVec S32x2048 1) i = 1#1)
include hm

/-- Every bit of the flat mask is set. -/
theorem flat_mask (i : S65536.Idx) : (res_main_v2 V0 : IVec S65536 1) i = 1#1 := hm _

/-- The flat mask as words: all ones. -/
theorem wide_mask (i : Fin 65536) : extui 32 (res_main_v2 V0 : IVec S65536 1) natLt_1_32 (ix1 i) = BitVec.ofNat 32 1 := by
  rw [extui_at, flat_mask V0 hm]; rfl

/-- The running sum of the mask at `k` is `k + 1`. -/
theorem running_sum (k : Fin 65536) : (res_main_v3 V0 : IVec S65536 32) (ix1 k) = BitVec.ofNat 32 (k.val + 1) := by
  unfold res_main_v3
  refine (cumsum1 rfl _ (fun _ => 1) (wide_mask V0 hm) _ ?_ _ _ k).trans (by rw [sum_ones])
  exact bc0 _ _ _

/-- The running sum of the histogram of the running sums at `k` is `k`: below it lie the `k` sums 1, …, `k`. -/
theorem positions (k : Fin 65536) : (res_main_v13 V0 : IVec S65536 32) (ix1 k) = BitVec.ofNat 32 k.val := by
  have hk := k.isLt
  unfold res_main_v13
  refine (cumsum1 rfl _ (fun y => Nat.count (fun i => i + 1 = y) 65536) (fun y => ?_) _ (bc0 _ _ _) _ _ k).trans ?_
  · exact scatter_hist scatter_S65536_S65536x1_S65536_n_0_0_1 rfl rfl rfl _ (fun i => bc0 _ _ _) _ _ (fun i => bc0 _ _ _) (fun i => i + 1)
      (fun i => index_column _ _ i _ (by have := i.isLt; omega) (running_sum V0 hm i)) (fun i => by have := i.isLt; show i.val + 1 < 2 ^ 31; omega) y
  · rw [sum_count_eq (fun i => i + 1), count_below _ _ (by omega)]

/-- The list of the masked positions: entry `k` is `k`. -/
theorem masked_positions (k : Fin 65536) : (res_main_v23 V0 : IVec S65536 32) (ix1 k) = BitVec.ofNat 32 k.val := by
  have hk := k.isLt
  have hsum : Host.reduce IntOp.addi (extui 32 (res_main_v2 V0 : IVec S65536 1) natLt_1_32) (constantI S_ 32 0#32) reducesTo_S65536_S_d0 h_S_ ix0
      = BitVec.ofNat 32 65536 := by
    rw [reduce_sum _ (fun _ => 1) (wide_mask V0 hm), sum_ones]
  have hdiv : pyDiv bcast_S_S65536 (res_main_v13 V0 : IVec S65536 32) (constantI S_ 32 1#32) (ix1 k) = BitVec.ofNat 32 (k.val / 1) :=
    pyDiv_ap bcast_S_S65536 _ _ (ix1 k) (positions V0 hm k) rfl (by omega) Nat.one_pos (by decide)
  have hrem := pyRem_ap bcast_S_S65536 (pyDiv bcast_S_S65536 (res_main_v13 V0 : IVec S65536 32) (constantI S_ 32 1#32)) (constantI S_ 32 65536#32)
    (ix1 k) (b := 65536) hdiv rfl (by rw [Nat.div_one]; omega) (by decide) (by decide)
  rw [Nat.div_one, Nat.mod_eq_of_lt hk] at hrem
  change select (cmpi .sge (iotaInDim S65536 32 0) _) _ (pyRem bcast_S_S65536 (pyDiv bcast_S_S65536 (res_main_v13 V0 : IVec S65536 32) (constantI S_ 32 1#32))
    (constantI S_ 32 65536#32)) (ix1 k) = _
  rw [select_at, cmpi_at, iota1_ap]
  have hb : broadcastInDim S65536 ![0] bcast_S1_S65536_0 (broadcastInDim S1 ![] bcast_S_S1
      (Host.reduce IntOp.addi (extui 32 (res_main_v2 V0 : IVec S65536 1) natLt_1_32) (constantI S_ 32 0#32) reducesTo_S65536_S_d0 h_S_)) (ix1 k)
      = BitVec.ofNat 32 65536 := by
    refine (broadcastInDim_apply _ bcast_S1_S65536_0 _ (ix1 k) (ix1 (0 : Fin 1)) fun a => ?_).trans ((bc0 bcast_S_S1 _ _).trans hsum)
    match a with
    | ⟨0, _⟩ => rfl
  rw [hb, cmpi_sge_ofNat (w := 32) (by omega) (by omega), select_decide, if_neg (by omega)]
  exact hrem

/-- With every row masked, the array that the reference convolves is the child array. -/
theorem overwritten : (res_main_v31 V0 : FVec F S32x2048x256 .f32) = V0 (Proc.devRef .tc main_arg1) := by
  have hrows : Host.scatter scatter_S65536x256_S65536x1_S65536x256_1_0_0_1 (fun _ b => b)
      (shapeCast S65536x256 (V0 (Proc.devRef .tc main_arg0) : FVec F S32x2048x256 .f32) shapeCasts_S32x2048x256_S65536x256)
      (broadcastInDim S65536x1 ![0] bcast_S65536_S65536x1_0 (select (cmpi .slt (res_main_v23 V0) (broadcastInDim S65536 ![] bcast_S_S65536 (constantI S_ 32 0#32)))
        (addi (res_main_v23 V0) (broadcastInDim S65536 ![] bcast_S_S65536 (constantI S_ 32 65536#32))) (res_main_v23 V0)))
      (shapeCast S65536x256 (V0 (Proc.devRef .tc main_arg1) : FVec F S32x2048x256 .f32) shapeCasts_S32x2048x256_S65536x256)
      = shapeCast S65536x256 (V0 (Proc.devRef .tc main_arg1) : FVec F S32x2048x256 .f32) shapeCasts_S32x2048x256_S65536x256 := by
    funext j
    have hidx : ∀ i : Fin 65536, _ = BitVec.ofNat 32 i.val := fun i =>
      index_column (res_main_v23 V0) (addi (res_main_v23 V0) (broadcastInDim S65536 ![] bcast_S_S65536 (constantI S_ 32 65536#32))) i i.val
        (by have := i.isLt; omega) (masked_positions V0 hm i)
    have hint : ∀ i : Fin 65536, (BitVec.ofNat 32 i.val).toInt = (i.val : Int) := fun i =>
      StableHlo.Predicate.toInt_ofNat_small _ (by have := i.isLt; omega)
    obtain ⟨r, c, rfl⟩ := row_column j
    refine Routing.scatter_set_hit _ _ _ _ (ix2 r c) _ (fun k hk => ?_) (ix2 r c) ?_
    · obtain ⟨i, e, rfl⟩ := row_column k
      rw [row_lands, hidx, hint] at hk
      obtain ⟨h0, h1⟩ := hk
      rw [show i = r from Fin.ext (by omega), show e = c from Fin.ext (by omega)]
    · rw [row_lands, hidx, hint]
      exact ⟨rfl, rfl⟩
  exact (congrArg (fun x => shapeCast S32x2048x256 x shapeCasts_S65536x256_S32x2048x256) hrows).trans
    (shapeCast_shapeCast _ _ _)

end AllMasked

end Cert.ReferenceIdeal.Masked

end
-- ==== Proof.Value.Mixed.lean ====
/- The convolution both programs compute, as plain mathematics, and the reference's term read as it. -/
module

public import proofs.«01_k».proof.Proof.Gen.ReferenceIdeal.Run
public import Idealize.ShloMosaic.PureOps.Ideal.Laws
public import Idealize.ShloMosaic.Lib.ValueIdxCore
public import Idealize.ShloMosaic.Lib.Pipeline.Value
public import Idealize.ShloMosaic.Lib.Pointwise.ShapeOpsCore

@[expose] public section

noncomputable section

namespace Cert.Conv

open Idealize.ShloMosaic hiding ix1 ix2 ix3 eq_ix3
open Idealize.ShloMosaic.ValueIdx
open scoped BigOperators

/-- Child number `s` (0 or 1) of the pair at position `p`, paired with one column of the weights: the sum over the features. -/
def tap (x : (⟨3, ![32, 2048, 256]⟩ : Shape).Idx → EReal) (w : (⟨3, ![256, 256, 2]⟩ : Shape).Idx → EReal)
    (n : Fin 32) (p : Fin 1024) (o : Fin 256) (s : Fin 2) : EReal :=
  ∑ e : Fin 256, x (ix3 n (⟨2 * p.val + s.val, by omega⟩ : Fin 2048) e) * w (ix3 o e s)

/-- One entry of the convolution: both children of the pair, and the bias. -/
def mixed (x : (⟨3, ![32, 2048, 256]⟩ : Shape).Idx → EReal) (w : (⟨3, ![256, 256, 2]⟩ : Shape).Idx → EReal)
    (b : (⟨1, ![256]⟩ : Shape).Idx → EReal) (n : Fin 32) (p : Fin 1024) (o : Fin 256) : EReal :=
  tap x w n p o 0 + tap x w n p o 1 + b (ix1 o)

end Cert.Conv

namespace Cert.ReferenceIdeal.Mixed

open Cert.ReferenceIdeal Cert.ReferenceIdeal.Gen Cert.ReferenceIdeal.Value Cert.Conv Idealize.ShloMosaic.ValueIdx
open Idealize.ShloMosaic hiding ix1 ix2 ix3 eq_ix3
open scoped BigOperators

variable (x : FVec Ideal S32x2048x256 .f32) (w : FVec Ideal S256x256x2 .f32) (b : FVec Ideal S256 .f32)

/-- The reference's product, of every row with the rows of a square matrix, read at an entry. -/
theorem product_at (l : FVec Ideal S32x1024x256 .f32) (r : FVec Ideal S256x256 .f32) (n : Fin 32) (p : Fin 1024) (o : Fin 256) :
    Host.dotGeneral dot_S32x1024x256_S256x256_S32x1024x256_2_1_01_0_n_n none l r (ix3 n p o) = ∑ e : Fin 256, l (ix3 n p e) * r (ix2 o e) := by
  show FloatOps.dotGeneral dot_S32x1024x256_S256x256_S32x1024x256_2_1_01_0_n_n none _ l r (ix3 n p o) = _
  rw [Ideal.dotGeneral_apply, ← Equiv.sum_comp (contrEquiv1 dot_S32x1024x256_S256x256_S32x1024x256_2_1_01_0_n_n 256 rfl rfl).symm]
  refine Finset.sum_congr rfl fun e _ => ?_
  have he := contrEquiv1_symm_val dot_S32x1024x256_S256x256_S32x1024x256_2_1_01_0_n_n 256 rfl rfl e
  have hl : dot_S32x1024x256_S256x256_S32x1024x256_2_1_01_0_n_n.lhsIdx (ix3 n p o) ((contrEquiv1 _ 256 rfl rfl).symm e) = ix3 n p e := by
    funext a; apply Fin.ext
    match a with
    | ⟨0, _⟩ => rfl
    | ⟨1, _⟩ => rfl
    | ⟨2, _⟩ => exact he
  have hr : dot_S32x1024x256_S256x256_S32x1024x256_2_1_01_0_n_n.rhsIdx (ix3 n p o) ((contrEquiv1 _ 256 rfl rfl).symm e) = ix2 o e := by
    funext a; apply Fin.ext
    match a with
    | ⟨0, _⟩ => rfl
    | ⟨1, _⟩ => exact he
  rw [hl, hr]

/-- A plane of the weights cut out and laid flat, read at an entry. -/
theorem plane_at (s : Fin 2) (h : S256x256x2.Slices ![0, 0, s.val] S256x256x1) (o e : Fin 256) :
    shapeCast S256x256 (extractStridedSlice S256x256x1 ![0, 0, s.val] w h) shapeCasts_S256x256x1_S256x256 (ix2 o e) = w (ix3 o e s) := by
  refine (shapeCast_apply _ _ (ix2 o e) (ix3 o e (0 : Fin 1)) ?_).trans (extractStridedSlice_apply _ w h _ (ix3 o e s) fun a => ?_)
  · rw [Shape.rowMajor_val_three, Shape.rowMajor_val_two]
    show (o.val * 256 + e.val) * 1 + 0 = o.val * 256 + e.val
    omega
  · match a with
    | ⟨0, _⟩ => exact (Nat.zero_add _).symm
    | ⟨1, _⟩ => exact (Nat.zero_add _).symm
    | ⟨2, _⟩ => rfl

/-- Every other row of the child array, read at an entry. -/
theorem rows_at (s : Fin 2) (h : S32x2048x256.SlicesBy ![0, s.val, 0] ![1, 2, 1] S32x1024x256) (n : Fin 32) (p : Fin 1024) (e : Fin 256) :
    Host.slice S32x1024x256 ![0, s.val, 0] ![1, 2, 1] x h (ix3 n p e) = x (ix3 n (⟨2 * p.val + s.val, by omega⟩ : Fin 2048) e) := by
  unfold Host.slice
  refine congrArg x (funext fun a => Fin.ext ?_)
  match a with
  | ⟨0, _⟩ => show 0 + 1 * n.val = n.val; omega
  | ⟨1, _⟩ => show s.val + 2 * p.val = 2 * p.val + s.val; omega
  | ⟨2, _⟩ => show 0 + 1 * e.val = e.val; omega

/-- One of the reference's two products is one tap of the convolution. -/
theorem tap_at (s : Fin 2) (h : S32x2048x256.SlicesBy ![0, s.val, 0] ![1, 2, 1] S32x1024x256) (h' : S256x256x2.Slices ![0, 0, s.val] S256x256x1)
    (n : Fin 32) (p : Fin 1024) (o : Fin 256) :
    Host.dotGeneral dot_S32x1024x256_S256x256_S32x1024x256_2_1_01_0_n_n none (Host.slice S32x1024x256 ![0, s.val, 0] ![1, 2, 1] x h)
      (shapeCast S256x256 (extractStridedSlice S256x256x1 ![0, 0, s.val] w h') shapeCasts_S256x256x1_S256x256) (ix3 n p o) = tap x w n p o s := by
  rw [product_at]
  exact Finset.sum_congr rfl fun e _ => congrArg₂ (· * ·) (rows_at x s h n p e) (plane_at w s h' o e)

/-- The bias laid along every row, read at an entry. -/
theorem bias_at (n : Fin 32) (p : Fin 1024) (o : Fin 256) :
    broadcastInDim S32x1024x256 ![0, 1, 2] bcast_S1x1x256_S32x1024x256_0_1_2 (broadcastInDim S1x1x256 ![2] bcast_S256_S1x1x256_2 b) (ix3 n p o) = b (ix1 o) := by
  refine (broadcastInDim_apply _ _ _ (ix3 n p o) (ix3 (0 : Fin 1) (0 : Fin 1) o) fun a => ?_).trans
    (broadcastInDim_apply _ _ b _ (ix1 o) fun a => ?_)
  · match a with
    | ⟨0, _⟩ => rfl
    | ⟨1, _⟩ => rfl
    | ⟨2, _⟩ => rfl
  · match a with
    | ⟨0, _⟩ => rfl

/-- The reference's term over an array of rows is the convolution of that array. -/
theorem reference_at (n : Fin 32) (p : Fin 1024) (o : Fin 256) :
    addf (addf (Host.dotGeneral dot_S32x1024x256_S256x256_S32x1024x256_2_1_01_0_n_n none
          (Host.slice S32x1024x256 ![0, 0, 0] ![1, 2, 1] x slicesBy_S32x2048x256_S32x1024x256_0s1_0s2_0s1)
          (shapeCast S256x256 (extractStridedSlice S256x256x1 ![0, 0, 0] w slices_S256x256x2_S256x256x1_0_0_0) shapeCasts_S256x256x1_S256x256))
        (Host.dotGeneral dot_S32x1024x256_S256x256_S32x1024x256_2_1_01_0_n_n none
          (Host.slice S32x1024x256 ![0, 1, 0] ![1, 2, 1] x slicesBy_S32x2048x256_S32x1024x256_0s1_1s2_0s1)
          (shapeCast S256x256 (extractStridedSlice S256x256x1 ![0, 0, 1] w slices_S256x256x2_S256x256x1_0_0_1) shapeCasts_S256x256x1_S256x256)))
      (broadcastInDim S32x1024x256 ![0, 1, 2] bcast_S1x1x256_S32x1024x256_0_1_2 (broadcastInDim S1x1x256 ![2] bcast_S256_S1x1x256_2 b)) (ix3 n p o)
      = mixed x w b n p o :=
  congrArg₂ (· + ·) (congrArg₂ (· + ·) (tap_at x w 0 _ _ n p o) (tap_at x w 1 _ _ n p o)) (bias_at b n p o)

end Cert.ReferenceIdeal.Mixed

end
-- ==== Proof.Value.Streamed.lean ====
/- What the kernel leaves in the result, entry by entry, is the convolution of the child array. -/
module

public import proofs.«01_k».proof.Proof.Exact.Launch
public import proofs.«01_k».proof.Proof.Value.Mixed
public import Idealize.ShloMosaic.Lib.MatmulPlain
public import Idealize.ShloMosaic.Lib.Claim

@[expose] public section

noncomputable section

namespace Cert.KernelIdeal.Stream

open Cert.KernelIdeal Cert.KernelIdeal.Gen Cert.Conv
open Idealize.ShloMosaic hiding ix1 ix2 ix3 eq_ix3
open Idealize.ShloMosaic.TcCoe Idealize.ShloMosaic.ValueIdx Idealize.ShloMosaic.StableHlo Idealize.SL.Sem
open scoped BigOperators

/-! ## The operands the host lays out -/

section Operands
variable {F : FTy → Type} [FloatOps F] (m : (ℓ : Loc nD τ sig) → Buf (Elt F) ℓ) (c : Dev nD)

/-- The weights as the kernel finds them: their axes reversed, then laid out as 512 rows. -/
theorem V_weights : (V m c main_v1 : FVec F S512x256 .f32)
    = shapeCast S512x256 (transpose S2x256x256 [2, 1, 0] (m ((c : Thread nD τ).loc main_arg3) : FVec F S256x256x2 .f32) transposes_S256x256x2_S2x256x256_2_1_0)
        shapeCasts_S2x256x256_S512x256 := by
  entry_read
  rfl

/-- The bias as the kernel finds it: one row. -/
theorem V_bias : (V m c main_v2 : FVec F S1x256 .f32) = shapeCast S1x256 (m ((c : Thread nD τ).loc main_arg4) : FVec F S256 .f32) shapeCasts_S256_S1x256 := by
  entry_read
  rfl

/-- Block `u` of the child array: its four batch rows. -/
theorem block_at (W : BufOf (F := F) c childM) (u : Fin 8) (q : Fin 4) (r : Fin 2048) (e : Fin 256) :
    ((inBlock u).view.read (Elt F) W : FVec F S4x2048x256 .f32) (ix3 q r e)
      = (W : FVec F S32x2048x256 .f32) (ix3 (⟨4 * u.val + q.val, by omega⟩ : Fin 32) r e) := by
  unfold inBlock
  refine congrArg (W : FVec F S32x2048x256 .f32) (funext fun a => Fin.ext ?_)
  match a with
  | ⟨0, _⟩ => show 4 * u.val + 1 * q.val = 4 * u.val + q.val; omega
  | ⟨1, _⟩ => show 0 + 1 * r.val = r.val; omega
  | ⟨2, _⟩ => show 0 + 1 * e.val = e.val; omega

end Operands

/-! ## One tile -/

variable (w : FVec Ideal S256x256x2 .f32) (b : FVec Ideal S256 .f32)

/-- The weights laid out as 512 rows: row `256 s + e` holds plane `s`, feature `e`. -/
theorem weights_at (s : Fin 2) (e o : Fin 256) (k : Fin 512) (hk : k.val = 256 * s.val + e.val) :
    shapeCast S512x256 (transpose S2x256x256 [2, 1, 0] w transposes_S256x256x2_S2x256x256_2_1_0) shapeCasts_S2x256x256_S512x256 (ix2 k o) = w (ix3 o e s) := by
  refine (shapeCast_apply _ _ (ix2 k o) (ix3 s e o) ?_).trans (transpose_apply _ w _ (ix3 s e o) (ix3 o e s) fun a => ?_)
  · rw [Shape.rowMajor_val_three, Shape.rowMajor_val_two]
    show (s.val * 256 + e.val) * 256 + o.val = k.val * 256 + o.val
    rw [hk]; omega
  · match a with
    | ⟨0, _⟩ => rfl
    | ⟨1, _⟩ => rfl
    | ⟨2, _⟩ => rfl

/-- The bias laid along every row. -/
theorem bias_at (r : Fin 4096) (o : Fin 256) :
    broadcastTo S4096x256 (shapeCast S1x256 (shapeCast S1x256 b shapeCasts_S256_S1x256) shapeCasts_S1x256_S1x256) broadcasts_S1x256_S4096x256 (ix2 r o) = b (ix1 o) := by
  rw [shapeCast_self]
  refine (broadcastTo_apply _ _ (ix2 r o) (ix2 (0 : Fin 1) o) fun a => ?_).trans (shapeCast_apply b _ _ (ix1 o) ?_)
  · match a with
    | ⟨0, _⟩ => rfl
    | ⟨1, _⟩ => rfl
  · rw [Shape.rowMajor_val_two, Shape.rowMajor_val_one]
    show o.val = 0 * 256 + o.val
    omega

/-- A sum over 512 rows is the sum over the first 256 and the sum over the last 256. -/
theorem sum_halves (f : Fin 512 → EReal) :
    ∑ k : Fin 512, f k = (∑ e : Fin 256, f ⟨e.val, by omega⟩) + ∑ e : Fin 256, f ⟨256 + e.val, by omega⟩ :=
  Fin.sum_univ_add (a := 256) (b := 256) f

/-- Two neighbouring rows of four batch rows side by side: row `1024 q + p`, column `256 s + e`. -/
theorem pairs_at (X : FVec Ideal S4x2048x256 .f32) (q : Fin 4) (p : Fin 1024) (s : Fin 2) (e : Fin 256) (r : Fin 4096) (k : Fin 512)
    (hr : r.val = 1024 * q.val + p.val) (hk : k.val = 256 * s.val + e.val) :
    shapeCast S4096x512 X shapeCasts_S4x2048x256_S4096x512 (ix2 r k) = X (ix3 q (⟨2 * p.val + s.val, by omega⟩ : Fin 2048) e) := by
  refine shapeCast_apply _ _ (ix2 r k) _ ?_
  rw [Shape.rowMajor_val_three, Shape.rowMajor_val_two]
  show (q.val * 2048 + (2 * p.val + s.val)) * 256 + e.val = r.val * 512 + k.val
  rw [hr, hk]; omega

/-- One entry of the tile computed from four batch rows. -/
theorem payload_at (X : FVec Ideal S4x2048x256 .f32) (u : Fin 8) (q : Fin 4) (p : Fin 1024) (o : Fin 256)
    (x : FVec Ideal S32x2048x256 .f32) (hX : ∀ (r : Fin 2048) (e : Fin 256), X (ix3 q r e) = x (ix3 (⟨4 * u.val + q.val, by omega⟩ : Fin 32) r e)) :
    k0_pay2 (F := Ideal) (shapeCast S1x4x2048x256 X casts_in)
      (shapeCast S512x256 (transpose S2x256x256 [2, 1, 0] w transposes_S256x256x2_S2x256x256_2_1_0) shapeCasts_S2x256x256_S512x256)
      (shapeCast S1x256 b shapeCasts_S256_S1x256) (ix3 q p o) = mixed x w b (⟨4 * u.val + q.val, by omega⟩ : Fin 32) p o := by
  have hflat : ∀ h h', shapeCast S4x2048x256 (shapeCast S1x4x2048x256 X h) h' = X := fun h h' => shapeCast_shapeCast X h h'
  unfold k0_pay2
  rw [hflat, shapeCast_self (s := S512x256)]
  refine (shapeCast_apply _ _ (ix3 q p o) (ix2 (⟨1024 * q.val + p.val, by omega⟩ : Fin 4096) o) ?_).trans ?_
  · rw [Shape.rowMajor_val_three, Shape.rowMajor_val_two]
    show (1024 * q.val + p.val) * 256 + o.val = (q.val * 1024 + p.val) * 256 + o.val
    omega
  refine congrArg₂ (· + ·) ?_ (bias_at b _ o)
  refine (Ideal.matmul_plain_apply (M := 4096) (K := 512) (N := 256) none _ _ _ _ o).trans ?_
  refine (congrArg (· + _) Ideal.ofBits_zero_f32).trans ?_
  rw [zero_add, sum_halves]
  refine congrArg₂ (· + ·) (Finset.sum_congr rfl fun e _ => ?_) (Finset.sum_congr rfl fun e _ => ?_)
  · exact congrArg₂ (· * ·) ((pairs_at X q p 0 e _ _ rfl (by show e.val = 256 * 0 + e.val; omega)).trans (hX _ e))
      (weights_at w 0 e o _ (by show e.val = 256 * 0 + e.val; omega))
  · exact congrArg₂ (· * ·) ((pairs_at X q p 1 e _ _ rfl (by show 256 + e.val = 256 * 1 + e.val; omega)).trans (hX _ e))
      (weights_at w 1 e o _ (by show 256 + e.val = 256 * 1 + e.val; omega))

/-! ## The whole result -/

/-- An entry of block `u` of the kernel's result is that entry of the convolution of the child array. -/
theorem result_block_at (m : (ℓ : Loc nD τ sig) → Buf (Elt Ideal) ℓ) (c : Dev nD) (u : Fin 8) (q : Fin 4) (p : Fin 1024) (o : Fin 256) :
    (result m c : FVec Ideal S32x1024x256 .f32) (ix3 (⟨4 * u.val + q.val, by omega⟩ : Fin 32) p o)
      = mixed (m ((c : Thread nD τ).loc main_arg1)) (m ((c : Thread nD τ).loc main_arg3)) (m ((c : Thread nD τ).loc main_arg4))
          (⟨4 * u.val + q.val, by omega⟩ : Fin 32) p o := by
  unfold result
  refine (joined_at _ u (ix3 q p o) _ (by show 4 * u.val + q.val = 4 * u.val + 1 * q.val; omega) rfl rfl).trans ?_
  unfold blockOut tile
  rw [V_weights, V_bias]
  refine payload_at _ _ _ u q p o (m ((c : Thread nD τ).loc main_arg1)) fun r e => ?_
  rw [block_at, V_main_arg1]

/-- An entry of the kernel's result is that entry of the convolution of the child array. -/
theorem result_at (m : (ℓ : Loc nD τ sig) → Buf (Elt Ideal) ℓ) (c : Dev nD) (n : Fin 32) (p : Fin 1024) (o : Fin 256) :
    (result m c : FVec Ideal S32x1024x256 .f32) (ix3 n p o)
      = mixed (m ((c : Thread nD τ).loc main_arg1)) (m ((c : Thread nD τ).loc main_arg3)) (m ((c : Thread nD τ).loc main_arg4)) n p o := by
  have e : n = (⟨4 * (n.val / 4) + n.val % 4, by omega⟩ : Fin 32) := Fin.ext (by show n.val = 4 * (n.val / 4) + n.val % 4; omega)
  rw [e]
  exact result_block_at m c ⟨n.val / 4, by omega⟩ ⟨n.val % 4, by omega⟩ p o

end Cert.KernelIdeal.Stream

end
-- ==== Proof.lean ====
/- The claims of `Cert.Claim` put together: the kernel's run (Proof/Float, Proof/Exact), the reference's (Proof/Gen/ReferenceIdeal/Run) and
   their common value (Proof/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Float.Launch
public import proofs.«01_k».proof.Proof.Exact.Launch
public import proofs.«01_k».proof.Proof.Gen.Pre_every_row_masked
public import proofs.«01_k».proof.Proof.Value.Masked
public import proofs.«01_k».proof.Proof.Value.Streamed
public import Idealize.ShloMosaic.Lib.ReduceAll
public import Idealize.ShloMosaic.Adequacy
public import Idealize.ShloMosaic.Init

@[expose] public section

noncomputable section

namespace Cert.Proof

open Idealize.ShloMosaic Idealize.SL.Sem

/-- The kernel at the float words runs, leaves its arguments as they were and every semaphore at zero. -/
theorem frame_kernel : Cert.quiescent_Kernel := fun m ρ _ => Cert.Kernel.Stream.frame_kept m ρ

/-- The kernel over the extended reals does the same. -/
theorem frame_kernel_exact : Cert.quiescent_KernelIdeal := fun m ρ _ => Cert.KernelIdeal.Stream.frame_kept m ρ

/-- The reference runs and leaves its arguments as they were; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same run of the kernel, asked for under the precondition. -/
theorem frame_kernel_exact_masked : Cert.quiescent_KernelIdeal_pre_every_row_masked := fun m ρ _ => Cert.KernelIdeal.Stream.frame_kept m ρ

/-- The same run of the reference, asked for under the precondition. -/
theorem frame_reference_masked : Cert.quiescent_ReferenceIdeal_pre_every_row_masked := fun m ρ _ => frame_reference m ρ trivial

/-- The precondition, row by row: every bit of the mask is set. -/
theorem every_bit (x0 x1 : FVec Ideal Cert.Pre_every_row_masked.S32x2048x256 .f32) (x2 : IVec Cert.Pre_every_row_masked.S32x2048 1)
    (x3 : FVec Ideal Cert.Pre_every_row_masked.S256x256x2 .f32) (x4 : FVec Ideal Cert.Pre_every_row_masked.S256 .f32)
    (h : Cert.Pre_every_row_masked.fn x0 x1 x2 x3 x4 = fun _ => 1#1) (i : Cert.Pre_every_row_masked.S32x2048.Idx) : x2 i = 1#1 := by
  have : Subsingleton Cert.Pre_every_row_masked.S_.Idx := ⟨fun a b => funext fun d => d.elim0⟩
  unfold Cert.Pre_every_row_masked.fn at h
  exact Host.reduce_andi_all x2 _ Cert.Pre_every_row_masked.Facts.reducesTo_S32x2048_S_d0_1 Cert.Pre_every_row_masked.Facts.h_S_
    (fun d : Fin 0 => d.elim0) (congrFun h _) i

/-- The kernel and the reference, over the extended reals and from equal arguments whose mask is set in every row, end with equal results:
    each entry is the same convolution of the child array. -/
theorem value_equal : Cert.algebraic_KernelIdeal_ReferenceIdeal_pre_every_row_masked := fun m ρ m' ρ' hpre hag =>
  ⟨fun c => Cert.KernelIdeal.Stream.result m c, Cert.KernelIdeal.Stream.run_value m ρ,
    (θ_run Cert.ReferenceIdeal.defs _ _).mono (fun r h c => ⟨(h c).1.trans (by
      obtain ⟨_, h1, h2, h3, h4⟩ := hag c
      have hm : ∀ i, (StableHlo.launchContents m' c (Proc.devRef .tc Cert.ReferenceIdeal.main_arg2) : IVec Cert.ReferenceIdeal.S32x2048 1) i = 1#1 :=
        fun i => (congrFun h2 i).trans (every_bit _ _ _ _ _ (hpre c) i)
      rw [Cert.ReferenceIdeal.Masked.overwritten (StableHlo.launchContents m' c) hm]
      refine funext fun (i : (⟨3, ![32, 1024, 256]⟩ : Shape).Idx) => ?_
      rw [ValueIdx.eq_ix3 i]
      refine (Cert.ReferenceIdeal.Mixed.reference_at _ _ _ (i 0) (i 1) (i 2)).trans (Eq.trans ?_ (Cert.KernelIdeal.Stream.result_at m c (i 0) (i 1) (i 2)).symm)
      exact congr (congr (congr (congrArg₂ Cert.Conv.mixed h1 h3 |> fun e => congr e h4) rfl) rfl) rfl), (h c).2⟩)
    (Cert.ReferenceIdeal.Value.run (F := Ideal) m' ρ')⟩

/-- Everything claimed. -/
theorem claim : Cert.Claim := ⟨Cert.Kernel.Gen.facts, Cert.KernelIdeal.Gen.facts, Cert.ReferenceIdeal.Gen.facts, Cert.Pre_every_row_masked.Gen.facts,
  frame_kernel, frame_kernel_exact, frame_kernel_exact_masked, frame_reference, frame_reference_masked, trivial, value_equal⟩

end Cert.Proof

end
